-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_v23) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S320x424x128 : Shape := ⟨3, ![320, 424, 128]⟩
abbrev S3x81920x64 : Shape := ⟨3, ![3, 81920, 64]⟩
abbrev S27x64x96 : Shape := ⟨3, ![27, 64, 96]⟩
abbrev S96 : Shape := ⟨1, ![96]⟩
abbrev S3x81920x96 : Shape := ⟨3, ![3, 81920, 96]⟩
abbrev S1728x96 : Shape := ⟨2, ![1728, 96]⟩
abbrev S96x1728 : Shape := ⟨2, ![96, 1728]⟩
abbrev S3x64x81920 : Shape := ⟨3, ![3, 64, 81920]⟩
abbrev S3x96x81920 : Shape := ⟨3, ![3, 96, 81920]⟩
abbrev S96x1 : Shape := ⟨2, ![96, 1]⟩
abbrev S1920x128 : Shape := ⟨2, ![1920, 128]⟩
abbrev S8x424x128 : Shape := ⟨3, ![8, 424, 128]⟩
abbrev S1x64x1024 : Shape := ⟨3, ![1, 64, 1024]⟩
abbrev S1x96x1024 : Shape := ⟨3, ![1, 96, 1024]⟩
abbrev S8x128 : Shape := ⟨2, ![8, 128]⟩
abbrev S96x256 : Shape := ⟨2, ![96, 256]⟩
abbrev S1x16x128 : Shape := ⟨3, ![1, 16, 128]⟩
abbrev S16x128 : Shape := ⟨2, ![16, 128]⟩
abbrev S64x128 : Shape := ⟨2, ![64, 128]⟩
abbrev S1x1x128 : Shape := ⟨3, ![1, 1, 128]⟩
abbrev S1x128 : Shape := ⟨2, ![1, 128]⟩
abbrev S256x128 : Shape := ⟨2, ![256, 128]⟩
abbrev S256x256 : Shape := ⟨2, ![256, 256]⟩
abbrev S1x64x128 : Shape := ⟨3, ![1, 64, 128]⟩
abbrev S192x128 : Shape := ⟨2, ![192, 128]⟩
abbrev S192x256 : Shape := ⟨2, ![192, 256]⟩
abbrev S96x192 : Shape := ⟨2, ![96, 192]⟩
abbrev S1x96x256 : Shape := ⟨3, ![1, 96, 256]⟩
abbrev S256 : Shape := ⟨1, ![256]⟩
abbrev S1x256 : Shape := ⟨2, ![1, 256]⟩
abbrev S3x81920 : Shape := ⟨2, ![3, 81920]⟩

abbrev nBuf : Space → Nat
  | .hbm => 41
  | .vmem => 78
  | .smem => 0
  | _ => 0

abbrev bufTy : (tb : Table) → Fin (tcTables nBuf tb) → BufTy
  | .hbm, ⟨0, _⟩ => ⟨S320x424x128, .i32⟩
  | .hbm, ⟨1, _⟩ => ⟨S320x424x128, .i32⟩
  | .hbm, ⟨2, _⟩ => ⟨S320x424x128, .i32⟩
  | .hbm, ⟨3, _⟩ => ⟨S320x424x128, .i32⟩
  | .hbm, ⟨4, _⟩ => ⟨S320x424x128, .i32⟩
  | .hbm, ⟨5, _⟩ => ⟨S320x424x128, .i32⟩
  | .hbm, ⟨6, _⟩ => ⟨S3x81920x64, .fp8e4m3⟩
  | .hbm, ⟨7, _⟩ => ⟨S27x64x96, .fp8e4m3⟩
  | .hbm, ⟨8, _⟩ => ⟨S96, .f32⟩
  | .hbm, ⟨9, _⟩ => ⟨S96, .f32⟩
  | .hbm, ⟨10, _⟩ => ⟨S3x81920x96, .bf16⟩
  | .hbm, ⟨11, _⟩ => ⟨S1728x96, .fp8e4m3⟩
  | .hbm, ⟨12, _⟩ => ⟨S96x1728, .fp8e4m3⟩
  | .hbm, ⟨13, _⟩ => ⟨S3x64x81920, .fp8e4m3⟩
  | .hbm, ⟨14, _⟩ => ⟨S3x96x81920, .bf16⟩
  | .hbm, ⟨15, _⟩ => ⟨S96x1, .f32⟩
  | .hbm, ⟨16, _⟩ => ⟨S96x1, .f32⟩
  | .hbm, ⟨17, _⟩ => ⟨S3x96x81920, .fp8e4m3⟩
  | .hbm, ⟨18, _⟩ => ⟨S1920x128, .f32⟩
  | .hbm, ⟨19, _⟩ => ⟨S96x1, .f32⟩
  | .hbm, ⟨20, _⟩ => ⟨S96x1, .f32⟩
  | .hbm, ⟨21, _⟩ => ⟨S3x96x81920, .fp8e4m3⟩
  | .hbm, ⟨22, _⟩ => ⟨S1920x128, .f32⟩
  | .hbm, ⟨23, _⟩ => ⟨S96x1, .f32⟩
  | .hbm, ⟨24, _⟩ => ⟨S96x1, .f32⟩
  | .hbm, ⟨25, _⟩ => ⟨S3x96x81920, .fp8e4m3⟩
  | .hbm, ⟨26, _⟩ => ⟨S1920x128, .f32⟩
  | .hbm, ⟨27, _⟩ => ⟨S96x1, .f32⟩
  | .hbm, ⟨28, _⟩ => ⟨S96x1, .f32⟩
  | .hbm, ⟨29, _⟩ => ⟨S3x96x81920, .fp8e4m3⟩
  | .hbm, ⟨30, _⟩ => ⟨S1920x128, .f32⟩
  | .hbm, ⟨31, _⟩ => ⟨S96x1, .f32⟩
  | .hbm, ⟨32, _⟩ => ⟨S96x1, .f32⟩
  | .hbm, ⟨33, _⟩ => ⟨S3x96x81920, .fp8e4m3⟩
  | .hbm, ⟨34, _⟩ => ⟨S1920x128, .f32⟩
  | .hbm, ⟨35, _⟩ => ⟨S96x1, .f32⟩
  | .hbm, ⟨36, _⟩ => ⟨S96x1, .f32⟩
  | .hbm, ⟨37, _⟩ => ⟨S3x96x81920, .fp8e4m3⟩
  | .hbm, ⟨38, _⟩ => ⟨S1920x128, .f32⟩
  | .hbm, ⟨39, _⟩ => ⟨S3x81920x96, .fp8e4m3⟩
  | .hbm, ⟨40, _⟩ => ⟨S3x81920, .f32⟩
  | .local _ .vmem, ⟨0, _⟩ => ⟨S8x424x128, .i32⟩
  | .local _ .vmem, ⟨1, _⟩ => ⟨S8x424x128, .i32⟩
  | .local _ .vmem, ⟨2, _⟩ => ⟨S1x64x1024, .fp8e4m3⟩
  | .local _ .vmem, ⟨3, _⟩ => ⟨S1x64x1024, .fp8e4m3⟩
  | .local _ .vmem, ⟨4, _⟩ => ⟨S96x1728, .fp8e4m3⟩
  | .local _ .vmem, ⟨5, _⟩ => ⟨S96x1, .f32⟩
  | .local _ .vmem, ⟨6, _⟩ => ⟨S96x1, .f32⟩
  | .local _ .vmem, ⟨7, _⟩ => ⟨S1x96x1024, .bf16⟩
  | .local _ .vmem, ⟨8, _⟩ => ⟨S1x96x1024, .bf16⟩
  | .local _ .vmem, ⟨9, _⟩ => ⟨S1x96x1024, .fp8e4m3⟩
  | .local _ .vmem, ⟨10, _⟩ => ⟨S1x96x1024, .fp8e4m3⟩
  | .local _ .vmem, ⟨11, _⟩ => ⟨S8x128, .f32⟩
  | .local _ .vmem, ⟨12, _⟩ => ⟨S8x128, .f32⟩
  | .local _ .vmem, ⟨13, _⟩ => ⟨S8x424x128, .i32⟩
  | .local _ .vmem, ⟨14, _⟩ => ⟨S8x424x128, .i32⟩
  | .local _ .vmem, ⟨15, _⟩ => ⟨S1x64x1024, .fp8e4m3⟩
  | .local _ .vmem, ⟨16, _⟩ => ⟨S1x64x1024, .fp8e4m3⟩
  | .local _ .vmem, ⟨17, _⟩ => ⟨S96x1728, .fp8e4m3⟩
  | .local _ .vmem, ⟨18, _⟩ => ⟨S96x1, .f32⟩
  | .local _ .vmem, ⟨19, _⟩ => ⟨S96x1, .f32⟩
  | .local _ .vmem, ⟨20, _⟩ => ⟨S1x96x1024, .bf16⟩
  | .local _ .vmem, ⟨21, _⟩ => ⟨S1x96x1024, .bf16⟩
  | .local _ .vmem, ⟨22, _⟩ => ⟨S1x96x1024, .fp8e4m3⟩
  | .local _ .vmem, ⟨23, _⟩ => ⟨S1x96x1024, .fp8e4m3⟩
  | .local _ .vmem, ⟨24, _⟩ => ⟨S8x128, .f32⟩
  | .local _ .vmem, ⟨25, _⟩ => ⟨S8x128, .f32⟩
  | .local _ .vmem, ⟨26, _⟩ => ⟨S8x424x128, .i32⟩
  | .local _ .vmem, ⟨27, _⟩ => ⟨S8x424x128, .i32⟩
  | .local _ .vmem, ⟨28, _⟩ => ⟨S1x64x1024, .fp8e4m3⟩
  | .local _ .vmem, ⟨29, _⟩ => ⟨S1x64x1024, .fp8e4m3⟩
  | .local _ .vmem, ⟨30, _⟩ => ⟨S96x1728, .fp8e4m3⟩
  | .local _ .vmem, ⟨31, _⟩ => ⟨S96x1, .f32⟩
  | .local _ .vmem, ⟨32, _⟩ => ⟨S96x1, .f32⟩
  | .local _ .vmem, ⟨33, _⟩ => ⟨S1x96x1024, .bf16⟩
  | .local _ .vmem, ⟨34, _⟩ => ⟨S1x96x1024, .bf16⟩
  | .local _ .vmem, ⟨35, _⟩ => ⟨S1x96x1024, .fp8e4m3⟩
  | .local _ .vmem, ⟨36, _⟩ => ⟨S1x96x1024, .fp8e4m3⟩
  | .local _ .vmem, ⟨37, _⟩ => ⟨S8x128, .f32⟩
  | .local _ .vmem, ⟨38, _⟩ => ⟨S8x128, .f32⟩
  | .local _ .vmem, ⟨39, _⟩ => ⟨S8x424x128, .i32⟩
  | .local _ .vmem, ⟨40, _⟩ => ⟨S8x424x128, .i32⟩
  | .local _ .vmem, ⟨41, _⟩ => ⟨S1x64x1024, .fp8e4m3⟩
  | .local _ .vmem, ⟨42, _⟩ => ⟨S1x64x1024, .fp8e4m3⟩
  | .local _ .vmem, ⟨43, _⟩ => ⟨S96x1728, .fp8e4m3⟩
  | .local _ .vmem, ⟨44, _⟩ => ⟨S96x1, .f32⟩
  | .local _ .vmem, ⟨45, _⟩ => ⟨S96x1, .f32⟩
  | .local _ .vmem, ⟨46, _⟩ => ⟨S1x96x1024, .bf16⟩
  | .local _ .vmem, ⟨47, _⟩ => ⟨S1x96x1024, .bf16⟩
  | .local _ .vmem, ⟨48, _⟩ => ⟨S1x96x1024, .fp8e4m3⟩
  | .local _ .vmem, ⟨49, _⟩ => ⟨S1x96x1024, .fp8e4m3⟩
  | .local _ .vmem, ⟨50, _⟩ => ⟨S8x128, .f32⟩
  | .local _ .vmem, ⟨51, _⟩ => ⟨S8x128, .f32⟩
  | .local _ .vmem, ⟨52, _⟩ => ⟨S8x424x128, .i32⟩
  | .local _ .vmem, ⟨53, _⟩ => ⟨S8x424x128, .i32⟩
  | .local _ .vmem, ⟨54, _⟩ => ⟨S1x64x1024, .fp8e4m3⟩
  | .local _ .vmem, ⟨55, _⟩ => ⟨S1x64x1024, .fp8e4m3⟩
  | .local _ .vmem, ⟨56, _⟩ => ⟨S96x1728, .fp8e4m3⟩
  | .local _ .vmem, ⟨57, _⟩ => ⟨S96x1, .f32⟩
  | .local _ .vmem, ⟨58, _⟩ => ⟨S96x1, .f32⟩
  | .local _ .vmem, ⟨59, _⟩ => ⟨S1x96x1024, .bf16⟩
  | .local _ .vmem, ⟨60, _⟩ => ⟨S1x96x1024, .bf16⟩
  | .local _ .vmem, ⟨61, _⟩ => ⟨S1x96x1024, .fp8e4m3⟩
  | .local _ .vmem, ⟨62, _⟩ => ⟨S1x96x1024, .fp8e4m3⟩
  | .local _ .vmem, ⟨63, _⟩ => ⟨S8x128, .f32⟩
  | .local _ .vmem, ⟨64, _⟩ => ⟨S8x128, .f32⟩
  | .local _ .vmem, ⟨65, _⟩ => ⟨S8x424x128, .i32⟩
  | .local _ .vmem, ⟨66, _⟩ => ⟨S8x424x128, .i32⟩
  | .local _ .vmem, ⟨67, _⟩ => ⟨S1x64x1024, .fp8e4m3⟩
  | .local _ .vmem, ⟨68, _⟩ => ⟨S1x64x1024, .fp8e4m3⟩
  | .local _ .vmem, ⟨69, _⟩ => ⟨S96x1728, .fp8e4m3⟩
  | .local _ .vmem, ⟨70, _⟩ => ⟨S96x1, .f32⟩
  | .local _ .vmem, ⟨71, _⟩ => ⟨S96x1, .f32⟩
  | .local _ .vmem, ⟨72, _⟩ => ⟨S1x96x1024, .bf16⟩
  | .local _ .vmem, ⟨73, _⟩ => ⟨S1x96x1024, .bf16⟩
  | .local _ .vmem, ⟨74, _⟩ => ⟨S1x96x1024, .fp8e4m3⟩
  | .local _ .vmem, ⟨75, _⟩ => ⟨S1x96x1024, .fp8e4m3⟩
  | .local _ .vmem, ⟨76, _⟩ => ⟨S8x128, .f32⟩
  | .local _ .vmem, ⟨77, _⟩ => ⟨S8x128, .f32⟩
  | _, _ => ⟨S320x424x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | _, _ => false

abbrev semScoped : Fin 0 → Bool
  | ⟨_, h⟩ => absurd h (Nat.not_lt_zero _)

abbrev dmaSemScoped : Fin 78 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | _ => false

abbrev sig : RefSig :=
  ofTc nBuf bufTy 0 78 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_v7 : Ref sig .tc := ⟨.hbm, 19, rfl⟩
abbrev main_v8 : Ref sig .tc := ⟨.hbm, 20, rfl⟩
abbrev main_v9_0 : Ref sig .tc := ⟨.hbm, 21, rfl⟩
abbrev main_v9_1 : Ref sig .tc := ⟨.hbm, 22, rfl⟩
abbrev main_v10 : Ref sig .tc := ⟨.hbm, 23, rfl⟩
abbrev main_v11 : Ref sig .tc := ⟨.hbm, 24, rfl⟩
abbrev main_v12_0 : Ref sig .tc := ⟨.hbm, 25, rfl⟩
abbrev main_v12_1 : Ref sig .tc := ⟨.hbm, 26, rfl⟩
abbrev main_v13 : Ref sig .tc := ⟨.hbm, 27, rfl⟩
abbrev main_v14 : Ref sig .tc := ⟨.hbm, 28, rfl⟩
abbrev main_v15_0 : Ref sig .tc := ⟨.hbm, 29, rfl⟩
abbrev main_v15_1 : Ref sig .tc := ⟨.hbm, 30, rfl⟩
abbrev main_v16 : Ref sig .tc := ⟨.hbm, 31, rfl⟩
abbrev main_v17 : Ref sig .tc := ⟨.hbm, 32, rfl⟩
abbrev main_v18_0 : Ref sig .tc := ⟨.hbm, 33, rfl⟩
abbrev main_v18_1 : Ref sig .tc := ⟨.hbm, 34, rfl⟩
abbrev main_v19 : Ref sig .tc := ⟨.hbm, 35, rfl⟩
abbrev main_v20 : Ref sig .tc := ⟨.hbm, 36, rfl⟩
abbrev main_v21_0 : Ref sig .tc := ⟨.hbm, 37, rfl⟩
abbrev main_v21_1 : Ref sig .tc := ⟨.hbm, 38, rfl⟩
abbrev main_v22 : Ref sig .tc := ⟨.hbm, 39, rfl⟩
abbrev main_v23 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg5_1 : Ref sig .tc := ⟨.vmem, 34, rfl⟩
abbrev cc2_stg6_0 : Ref sig .tc := ⟨.vmem, 35, rfl⟩
abbrev cc2_stg6_1 : Ref sig .tc := ⟨.vmem, 36, rfl⟩
abbrev cc2_stg7_0 : Ref sig .tc := ⟨.vmem, 37, rfl⟩
abbrev cc2_stg7_1 : Ref sig .tc := ⟨.vmem, 38, rfl⟩
abbrev cc3_stg0_0 : Ref sig .tc := ⟨.vmem, 39, rfl⟩
abbrev cc3_stg0_1 : Ref sig .tc := ⟨.vmem, 40, rfl⟩
abbrev cc3_stg1_0 : Ref sig .tc := ⟨.vmem, 41, rfl⟩
abbrev cc3_stg1_1 : Ref sig .tc := ⟨.vmem, 42, rfl⟩
abbrev cc3_stg2_0 : Ref sig .tc := ⟨.vmem, 43, rfl⟩
abbrev cc3_stg3_0 : Ref sig .tc := ⟨.vmem, 44, rfl⟩
abbrev cc3_stg4_0 : Ref sig .tc := ⟨.vmem, 45, rfl⟩
abbrev cc3_stg5_0 : Ref sig .tc := ⟨.vmem, 46, rfl⟩
abbrev cc3_stg5_1 : Ref sig .tc := ⟨.vmem, 47, rfl⟩
abbrev cc3_stg6_0 : Ref sig .tc := ⟨.vmem, 48, rfl⟩
abbrev cc3_stg6_1 : Ref sig .tc := ⟨.vmem, 49, rfl⟩
abbrev cc3_stg7_0 : Ref sig .tc := ⟨.vmem, 50, rfl⟩
abbrev cc3_stg7_1 : Ref sig .tc := ⟨.vmem, 51, rfl⟩
abbrev cc4_stg0_0 : Ref sig .tc := ⟨.vmem, 52, rfl⟩
abbrev cc4_stg0_1 : Ref sig .tc := ⟨.vmem, 53, rfl⟩
abbrev cc4_stg1_0 : Ref sig .tc := ⟨.vmem, 54, rfl⟩
abbrev cc4_stg1_1 : Ref sig .tc := ⟨.vmem, 55, rfl⟩
abbrev cc4_stg2_0 : Ref sig .tc := ⟨.vmem, 56, rfl⟩
abbrev cc4_stg3_0 : Ref sig .tc := ⟨.vmem, 57, rfl⟩
abbrev cc4_stg4_0 : Ref sig .tc := ⟨.vmem, 58, rfl⟩
abbrev cc4_stg5_0 : Ref sig .tc := ⟨.vmem, 59, rfl⟩
abbrev cc4_stg5_1 : Ref sig .tc := ⟨.vmem, 60, rfl⟩
abbrev cc4_stg6_0 : Ref sig .tc := ⟨.vmem, 61, rfl⟩
abbrev cc4_stg6_1 : Ref sig .tc := ⟨.vmem, 62, rfl⟩
abbrev cc4_stg7_0 : Ref sig .tc := ⟨.vmem, 63, rfl⟩
abbrev cc4_stg7_1 : Ref sig .tc := ⟨.vmem, 64, rfl⟩
abbrev cc5_stg0_0 : Ref sig .tc := ⟨.vmem, 65, rfl⟩
abbrev cc5_stg0_1 : Ref sig .tc := ⟨.vmem, 66, rfl⟩
abbrev cc5_stg1_0 : Ref sig .tc := ⟨.vmem, 67, rfl⟩
abbrev cc5_stg1_1 : Ref sig .tc := ⟨.vmem, 68, rfl⟩
abbrev cc5_stg2_0 : Ref sig .tc := ⟨.vmem, 69, rfl⟩
abbrev cc5_stg3_0 : Ref sig .tc := ⟨.vmem, 70, rfl⟩
abbrev cc5_stg4_0 : Ref sig .tc := ⟨.vmem, 71, rfl⟩
abbrev cc5_stg5_0 : Ref sig .tc := ⟨.vmem, 72, rfl⟩
abbrev cc5_stg5_1 : Ref sig .tc := ⟨.vmem, 73, rfl⟩
abbrev cc5_stg6_0 : Ref sig .tc := ⟨.vmem, 74, rfl⟩
abbrev cc5_stg6_1 : Ref sig .tc := ⟨.vmem, 75, rfl⟩
abbrev cc5_stg7_0 : Ref sig .tc := ⟨.vmem, 76, rfl⟩
abbrev cc5_stg7_1 : Ref sig .tc := ⟨.vmem, 77, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem3_0 : DmaSem sig := 31
abbrev cc2_sem4_0 : DmaSem sig := 32
abbrev cc2_sem5_0 : DmaSem sig := 33
abbrev cc2_sem5_1 : DmaSem sig := 34
abbrev cc2_sem6_0 : DmaSem sig := 35
abbrev cc2_sem6_1 : DmaSem sig := 36
abbrev cc2_sem7_0 : DmaSem sig := 37
abbrev cc2_sem7_1 : DmaSem sig := 38
abbrev cc3_sem0_0 : DmaSem sig := 39
abbrev cc3_sem0_1 : DmaSem sig := 40
abbrev cc3_sem1_0 : DmaSem sig := 41
abbrev cc3_sem1_1 : DmaSem sig := 42
abbrev cc3_sem2_0 : DmaSem sig := 43
abbrev cc3_sem3_0 : DmaSem sig := 44
abbrev cc3_sem4_0 : DmaSem sig := 45
abbrev cc3_sem5_0 : DmaSem sig := 46
abbrev cc3_sem5_1 : DmaSem sig := 47
abbrev cc3_sem6_0 : DmaSem sig := 48
abbrev cc3_sem6_1 : DmaSem sig := 49
abbrev cc3_sem7_0 : DmaSem sig := 50
abbrev cc3_sem7_1 : DmaSem sig := 51
abbrev cc4_sem0_0 : DmaSem sig := 52
abbrev cc4_sem0_1 : DmaSem sig := 53
abbrev cc4_sem1_0 : DmaSem sig := 54
abbrev cc4_sem1_1 : DmaSem sig := 55
abbrev cc4_sem2_0 : DmaSem sig := 56
abbrev cc4_sem3_0 : DmaSem sig := 57
abbrev cc4_sem4_0 : DmaSem sig := 58
abbrev cc4_sem5_0 : DmaSem sig := 59
abbrev cc4_sem5_1 : DmaSem sig := 60
abbrev cc4_sem6_0 : DmaSem sig := 61
abbrev cc4_sem6_1 : DmaSem sig := 62
abbrev cc4_sem7_0 : DmaSem sig := 63
abbrev cc4_sem7_1 : DmaSem sig := 64
abbrev cc5_sem0_0 : DmaSem sig := 65
abbrev cc5_sem0_1 : DmaSem sig := 66
abbrev cc5_sem1_0 : DmaSem sig := 67
abbrev cc5_sem1_1 : DmaSem sig := 68
abbrev cc5_sem2_0 : DmaSem sig := 69
abbrev cc5_sem3_0 : DmaSem sig := 70
abbrev cc5_sem4_0 : DmaSem sig := 71
abbrev cc5_sem5_0 : DmaSem sig := 72
abbrev cc5_sem5_1 : DmaSem sig := 73
abbrev cc5_sem6_0 : DmaSem sig := 74
abbrev cc5_sem6_1 : DmaSem sig := 75
abbrev cc5_sem7_0 : DmaSem sig := 76
abbrev cc5_sem7_1 : DmaSem sig := 77

abbrev nD : Nat := 1
abbrev τ : Topo := Topo.v7x

variable {F : FTy → Type} [FloatOps F]

abbrev grid0 : Pipeline.Grid := ⟨1, ![40], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_6 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S8x424x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x1024 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S96x1728 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S96x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S96x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x96x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x96x1024 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![40], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c40_i32 : BitVec 32 := 40#32
  let v0 : BitVec 32 := Scalar.addi c40_i32 arg0
  let c0_i32 : BitVec 32 := 0#32
  let c0_i32_0 : BitVec 32 := 0#32
  let c0_i32_1 : BitVec 32 := 0#32
  ![c0_i32.toNat, c0_i32_0.toNat, v0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c40_i32 : BitVec 32 := 40#32
  let v0 : BitVec 32 := Scalar.addi c40_i32 arg0
  let c0_i32 : BitVec 32 := 0#32
  let c0_i32_0 : BitVec 32 := 0#32
  let c0_i32_1 : BitVec 32 := 0#32
  ![c0_i32.toNat, c0_i32_0.toNat, v0.toNat]

def cc1_transform_8 (i : grid1.Coords) : Fin 3 → Nat :=
  let arg0 : BitVec 32 := BitVec.ofNat 32 (i 0).val
  let c40_i32 : BitVec 32 := 40#32
  let v0 : BitVec 32 := Scalar.addi c40_i32 arg0
  let c0_i32 : BitVec 32 := 0#32
  let c0_i32_0 : BitVec 32 := 0#32
  let c0_i32_1 : BitVec 32 := 0#32
  ![c0_i32.toNat, c0_i32_0.toNat, v0.toNat]

def cc1_transform_9 (i : grid1.Coords) : Fin 2 → Nat :=
  let arg0 : BitVec 32 := BitVec.ofNat 32 (i 0).val
  let c40_i32 : BitVec 32 := 40#32
  let v0 : BitVec 32 := Scalar.addi c40_i32 arg0
  let c0_i32 : BitVec 32 := 0#32
  let c0_i32_0 : BitVec 32 := 0#32
  ![v0.toNat, c0_i32.toNat]

abbrev stage1_0 : Fin 2 → Memref sig .tc .vmem S8x424x128 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x64x1024 .fp8e4m3 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S96x1728 .fp8e4m3 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S96x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S96x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1x96x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x96x1024 .fp8e4m3 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S8x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![40], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let v0 : BitVec 32 := Scalar.addi c0_i32 arg0
  let c1_i32 : BitVec 32 := 1#32
  let c0_i32_0 : BitVec 32 := 0#32
  let c0_i32_1 : BitVec 32 := 0#32
  ![c1_i32.toNat, c0_i32_0.toNat, v0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let c0_i32 : BitVec 32 := 0#32
  let v0 : BitVec 32 := Scalar.addi c0_i32 arg0
  let c1_i32 : BitVec 32 := 1#32
  let c0_i32_0 : BitVec 32 := 0#32
  let c0_i32_1 : BitVec 32 := 0#32
  ![c1_i32.toNat, c0_i32_0.toNat, v0.toNat]

def cc2_transform_8 (i : grid2.Coords) : Fin 3 → Nat :=
  let arg0 : BitVec 32 := BitVec.ofNat 32 (i 0).val
  let c0_i32 : BitVec 32 := 0#32
  let v0 : BitVec 32 := Scalar.addi c0_i32 arg0
  let c1_i32 : BitVec 32 := 1#32
  let c0_i32_0 : BitVec 32 := 0#32
  let c0_i32_1 : BitVec 32 := 0#32
  ![c1_i32.toNat, c0_i32_0.toNat, v0.toNat]

def cc2_transform_9 (i : grid2.Coords) : Fin 2 → Nat :=
  let arg0 : BitVec 32 := BitVec.ofNat 32 (i 0).val
  let c80_i32 : BitVec 32 := 80#32
  let v0 : BitVec 32 := Scalar.addi c80_i32 arg0
  let c0_i32 : BitVec 32 := 0#32
  let c0_i32_0 : BitVec 32 := 0#32
  ![v0.toNat, c0_i32.toNat]

abbrev stage2_0 : Fin 2 → Memref sig .tc .vmem S8x424x128 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x64x1024 .fp8e4m3 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S96x1728 .fp8e4m3 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S96x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S96x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1x96x1024 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x96x1024 .fp8e4m3 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S8x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![40], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c40_i32 : BitVec 32 := 40#32
  let v0 : BitVec 32 := Scalar.addi c40_i32 arg0
  let c1_i32 : BitVec 32 := 1#32
  let c0_i32 : BitVec 32 := 0#32
  let c0_i32_0 : BitVec 32 := 0#32
  ![c1_i32.toNat, c0_i32.toNat, v0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 3 → Nat :=
  let arg0 : BitVec 32 := BitVec.ofNat 32 (i 0).val
  let c40_i32 : BitVec 32 := 40#32
  let v0 : BitVec 32 := Scalar.addi c40_i32 arg0
  let c1_i32 : BitVec 32 := 1#32
  let c0_i32 : BitVec 32 := 0#32
  let c0_i32_0 : BitVec 32 := 0#32
  ![c1_i32.toNat, c0_i32.toNat, v0.toNat]

def cc3_transform_8 (i : grid3.Coords) : Fin 3 → Nat :=
  let arg0 : BitVec 32 := BitVec.ofNat 32 (i 0).val
  let c40_i32 : BitVec 32 := 40#32
  let v0 : BitVec 32 := Scalar.addi c40_i32 arg0
  let c1_i32 : BitVec 32 := 1#32
  let c0_i32 : BitVec 32 := 0#32
  let c0_i32_0 : BitVec 32 := 0#32
  ![c1_i32.toNat, c0_i32.toNat, v0.toNat]

def cc3_transform_9 (i : grid3.Coords) : Fin 2 → Nat :=
  let arg0 : BitVec 32 := BitVec.ofNat 32 (i 0).val
  let c120_i32 : BitVec 32 := 120#32
  let v0 : BitVec 32 := Scalar.addi c120_i32 arg0
  let c0_i32 : BitVec 32 := 0#32
  let c0_i32_0 : BitVec 32 := 0#32
  ![v0.toNat, c0_i32.toNat]

abbrev stage3_0 : Fin 2 → Memref sig .tc .vmem S8x424x128 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x64x1024 .fp8e4m3 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S96x1728 .fp8e4m3 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S96x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S96x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S1x96x1024 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S1x96x1024 .fp8e4m3 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S8x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![40], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 3 → Nat :=
  let arg0 : BitVec 32 := BitVec.ofNat 32 (i 0).val
  let c0_i32 : BitVec 32 := 0#32
  let v0 : BitVec 32 := Scalar.addi c0_i32 arg0
  let c2_i32 : BitVec 32 := 2#32
  let c0_i32_0 : BitVec 32 := 0#32
  let c0_i32_1 : BitVec 32 := 0#32
  ![c2_i32.toNat, c0_i32_0.toNat, v0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 3 → Nat :=
  let arg0 : BitVec 32 := BitVec.ofNat 32 (i 0).val
  let c0_i32 : BitVec 32 := 0#32
  let v0 : BitVec 32 := Scalar.addi c0_i32 arg0
  let c2_i32 : BitVec 32 := 2#32
  let c0_i32_0 : BitVec 32 := 0#32
  let c0_i32_1 : BitVec 32 := 0#32
  ![c2_i32.toNat, c0_i32_0.toNat, v0.toNat]

def cc4_transform_8 (i : grid4.Coords) : Fin 3 → Nat :=
  let arg0 : BitVec 32 := BitVec.ofNat 32 (i 0).val
  let c0_i32 : BitVec 32 := 0#32
  let v0 : BitVec 32 := Scalar.addi c0_i32 arg0
  let c2_i32 : BitVec 32 := 2#32
  let c0_i32_0 : BitVec 32 := 0#32
  let c0_i32_1 : BitVec 32 := 0#32
  ![c2_i32.toNat, c0_i32_0.toNat, v0.toNat]

def cc4_transform_9 (i : grid4.Coords) : Fin 2 → Nat :=
  let arg0 : BitVec 32 := BitVec.ofNat 32 (i 0).val
  let c160_i32 : BitVec 32 := 160#32
  let v0 : BitVec 32 := Scalar.addi c160_i32 arg0
  let c0_i32 : BitVec 32 := 0#32
  let c0_i32_0 : BitVec 32 := 0#32
  ![v0.toNat, c0_i32.toNat]

abbrev stage4_0 : Fin 2 → Memref sig .tc .vmem S8x424x128 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1x64x1024 .fp8e4m3 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S96x1728 .fp8e4m3 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S96x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S96x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S1x96x1024 .bf16 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S1x96x1024 .fp8e4m3 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S8x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![40], ![false]⟩

def cc5_transform_0 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_1 (i : grid5.Coords) : Fin 3 → Nat :=
  let arg0 : BitVec 32 := BitVec.ofNat 32 (i 0).val
  let c40_i32 : BitVec 32 := 40#32
  let v0 : BitVec 32 := Scalar.addi c40_i32 arg0
  let c2_i32 : BitVec 32 := 2#32
  let c0_i32 : BitVec 32 := 0#32
  let c0_i32_0 : BitVec 32 := 0#32
  ![c2_i32.toNat, c0_i32.toNat, v0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 3 → Nat :=
  let arg0 : BitVec 32 := BitVec.ofNat 32 (i 0).val
  let c40_i32 : BitVec 32 := 40#32
  let v0 : BitVec 32 := Scalar.addi c40_i32 arg0
  let c2_i32 : BitVec 32 := 2#32
  let c0_i32 : BitVec 32 := 0#32
  let c0_i32_0 : BitVec 32 := 0#32
  ![c2_i32.toNat, c0_i32.toNat, v0.toNat]

def cc5_transform_8 (i : grid5.Coords) : Fin 3 → Nat :=
  let arg0 : BitVec 32 := BitVec.ofNat 32 (i 0).val
  let c40_i32 : BitVec 32 := 40#32
  let v0 : BitVec 32 := Scalar.addi c40_i32 arg0
  let c2_i32 : BitVec 32 := 2#32
  let c0_i32 : BitVec 32 := 0#32
  let c0_i32_0 : BitVec 32 := 0#32
  ![c2_i32.toNat, c0_i32.toNat, v0.toNat]

def cc5_transform_9 (i : grid5.Coords) : Fin 2 → Nat :=
  let arg0 : BitVec 32 := BitVec.ofNat 32 (i 0).val
  let c200_i32 : BitVec 32 := 200#32
  let v0 : BitVec 32 := Scalar.addi c200_i32 arg0
  let c0_i32 : BitVec 32 := 0#32
  let c0_i32_0 : BitVec 32 := 0#32
  ![v0.toNat, c0_i32.toNat]

abbrev stage5_0 : Fin 2 → Memref sig .tc .vmem S8x424x128 .i32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1x64x1024 .fp8e4m3 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S96x1728 .fp8e4m3 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S96x1 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S96x1 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S1x96x1024 .bf16 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S1x96x1024 .fp8e4m3 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev stage5_7 : Fin 2 → Memref sig .tc .vmem S8x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]
-- ==== ReferenceIdeal.lean ====
abbrev S320x424x128 : Shape := ⟨3, ![320, 424, 128]⟩
abbrev S3x81920x64 : Shape := ⟨3, ![3, 81920, 64]⟩
abbrev S27x64x96 : Shape := ⟨3, ![27, 64, 96]⟩
abbrev S96 : Shape := ⟨1, ![96]⟩
abbrev S3x81920x96 : Shape := ⟨3, ![3, 81920, 96]⟩
abbrev S1920x424x128 : Shape := ⟨3, ![1920, 424, 128]⟩
abbrev S1920x128x64 : Shape := ⟨3, ![1920, 128, 64]⟩
abbrev S1920x64x128 : Shape := ⟨3, ![1920, 64, 128]⟩
abbrev S1728x96 : Shape := ⟨2, ![1728, 96]⟩
abbrev S1x96 : Shape := ⟨2, ![1, 96]⟩
abbrev S245760x96 : Shape := ⟨2, ![245760, 96]⟩
abbrev S245760x1 : Shape := ⟨2, ![245760, 1]⟩
abbrev S1920x416x128 : Shape := ⟨3, ![1920, 416, 128]⟩
abbrev S1920x1664x128 : Shape := ⟨3, ![1920, 1664, 128]⟩
abbrev S1920x832x128 : Shape := ⟨3, ![1920, 832, 128]⟩
abbrev S1920x1728x128 : Shape := ⟨3, ![1920, 1728, 128]⟩
abbrev S1920x7x128 : Shape := ⟨3, ![1920, 7, 128]⟩
abbrev S1920x7x1x128 : Shape := ⟨4, ![1920, 7, 1, 128]⟩
abbrev S1920x7x4x128 : Shape := ⟨4, ![1920, 7, 4, 128]⟩
abbrev S1920x28x128 : Shape := ⟨3, ![1920, 28, 128]⟩
abbrev S1920x27x128 : Shape := ⟨3, ![1920, 27, 128]⟩
abbrev S1920x27x1x128 : Shape := ⟨4, ![1920, 27, 1, 128]⟩
abbrev S1920x27x64x128 : Shape := ⟨4, ![1920, 27, 64, 128]⟩
abbrev S1920x128x1728 : Shape := ⟨3, ![1920, 128, 1728]⟩
abbrev S245760x1728 : Shape := ⟨2, ![245760, 1728]⟩
abbrev S245760 : Shape := ⟨1, ![245760]⟩
abbrev S1x246 : Shape := ⟨2, ![1, 246]⟩
abbrev S245760x246 : Shape := ⟨2, ![245760, 246]⟩
abbrev S3x81920 : Shape := ⟨2, ![3, 81920]⟩

abbrev nBuf : Space → Nat
  | .hbm => 22
  | .vmem => 8
  | .smem => 0
  | _ => 0

abbrev bufTy : (tb : Table) → Fin (tcTables nBuf tb) → BufTy
  | .hbm, ⟨0, _⟩ => ⟨S320x424x128, .i32⟩
  | .hbm, ⟨1, _⟩ => ⟨S320x424x128, .i32⟩
  | .hbm, ⟨2, _⟩ => ⟨S320x424x128, .i32⟩
  | .hbm, ⟨3, _⟩ => ⟨S320x424x128, .i32⟩
  | .hbm, ⟨4, _⟩ => ⟨S320x424x128, .i32⟩
  | .hbm, ⟨5, _⟩ => ⟨S320x424x128, .i32⟩
  | .hbm, ⟨6, _⟩ => ⟨S3x81920x64, .fp8e4m3⟩
  | .hbm, ⟨7, _⟩ => ⟨S27x64x96, .fp8e4m3⟩
  | .hbm, ⟨8, _⟩ => ⟨S96, .f32⟩
  | .hbm, ⟨9, _⟩ => ⟨S96, .f32⟩
  | .hbm, ⟨10, _⟩ => ⟨S3x81920x96, .bf16⟩
  | .hbm, ⟨11, _⟩ => ⟨S1920x424x128, .i32⟩
  | .hbm, ⟨12, _⟩ => ⟨S1920x128x64, .fp8e4m3⟩
  | .hbm, ⟨13, _⟩ => ⟨S1920x64x128, .fp8e4m3⟩
  | .hbm, ⟨14, _⟩ => ⟨S1728x96, .fp8e4m3⟩
  | .hbm, ⟨15, _⟩ => ⟨S1x96, .f32⟩
  | .hbm, ⟨16, _⟩ => ⟨S1x96, .f32⟩
  | .hbm, ⟨17, _⟩ => ⟨S245760x96, .bf16⟩
  | .hbm, ⟨18, _⟩ => ⟨S245760x96, .fp8e4m3⟩
  | .hbm, ⟨19, _⟩ => ⟨S245760x1, .f32⟩
  | .hbm, ⟨20, _⟩ => ⟨S3x81920x96, .fp8e4m3⟩
  | .hbm, ⟨21, _⟩ => ⟨S3x81920, .f32⟩
  | .local _ .vmem, ⟨0, _⟩ => ⟨S1920x424x128, .i32⟩
  | .local _ .vmem, ⟨1, _⟩ => ⟨S1920x64x128, .fp8e4m3⟩
  | .local _ .vmem, ⟨2, _⟩ => ⟨S1728x96, .fp8e4m3⟩
  | .local _ .vmem, ⟨3, _⟩ => ⟨S1x96, .f32⟩
  | .local _ .vmem, ⟨4, _⟩ => ⟨S1x96, .f32⟩
  | .local _ .vmem, ⟨5, _⟩ => ⟨S245760x96, .bf16⟩
  | .local _ .vmem, ⟨6, _⟩ => ⟨S245760x96, .fp8e4m3⟩
  | .local _ .vmem, ⟨7, _⟩ => ⟨S245760x1, .f32⟩
  | _, _ => ⟨S320x424x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev main_v8 : Ref sig .tc := ⟨.hbm, 20, rfl⟩
abbrev main_v9 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S1920x424x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1920x64x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1728x96 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S245760x96 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S245760x96 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S245760x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Spec.lean ====
/-
  What one token's convolution and quantisation compute, in words of no program: the value both sides are read at.

  A token is one lane of one tile. Its gathered column is 424 words: rows 0 to 415 hold the neighbours' feature codes, four
  bytes to a word (sixteen words per tap, the centre tap left out), rows 416 to 422 the taps' scale exponents, four bytes to
  a word. The centre tap's codes are the token's own.
-/
module

public import Idealize.ShloMosaic.PureOps.Ideal.Laws
public import Idealize.ShloMosaic.Lib.BitcastPair
public import Idealize.ShloMosaic.Lib.Pointwise

@[expose] public section

noncomputable section

namespace Conv

open Idealize.ShloMosaic
open scoped BigOperators

/-! ## Powers of two by exponent field -/

/-- The value of the float32 pattern whose exponent field is `n` and whose other bits are zero: `0`, `2 ^ (n - 127)`, `⊤`. -/
def pw (n : ℕ) : EReal :=
  if n = 255 then ⊤ else if n = 0 then 0 else (((2 : ℝ) ^ ((n : ℤ) - 127) : ℝ) : EReal)

/-- A field strictly inside the range is a power of two. -/
theorem pw_eq {n : ℕ} (h0 : n ≠ 0) (h1 : n ≠ 255) : pw n = (((2 : ℝ) ^ ((n : ℤ) - 127) : ℝ) : EReal) := by
  unfold pw; rw [if_neg h1, if_neg h0]

/-- Field 127 is one. -/
theorem pw_127 : pw 127 = 1 := by
  rw [pw_eq (by omega) (by omega)]; norm_num

/-- The values grow with the field. -/
theorem pw_mono {m n : ℕ} (h : m ≤ n) (hn : n ≤ 255) : pw m ≤ pw n := by
  by_cases h255 : n = 255
  · subst h255; simp [pw]
  by_cases h0 : m = 0
  · subst h0
    by_cases hn0 : n = 0
    · subst hn0; exact le_refl _
    rw [pw_eq hn0 h255]
    simp only [pw]
    norm_num
    positivity
  rw [pw_eq h0 (by omega), pw_eq (by omega) h255]
  exact EReal.coe_le_coe_iff.2 (zpow_le_zpow_right₀ (by norm_num) (by omega))

/-- The float32 pattern with exponent field `n` denotes `pw n`. -/
theorem ofBits_f32_field (e : BitVec 8) : Ideal.ofBits .f32 (e.setWidth 32 <<< 23) = pw e.toNat := by
  have hn : ∀ e : BitVec 8, (((e.setWidth 32 <<< 23 : BitVec 32).extractLsb' 31 1 == 1#1) = false)
      ∧ (e.setWidth 32 <<< 23 : BitVec 32).extractLsb' 23 8 = e ∧ (e.setWidth 32 <<< 23 : BitVec 32).extractLsb' 0 23 = 0#23 := by
    decide
  obtain ⟨h1, h2, h3⟩ := hn e
  simp only [Ideal.ofBits, Ideal.ieee, pw]
  rw [h1, h2, h3]
  by_cases c1 : e.toNat = 255
  · simp [c1]
  by_cases c0 : e.toNat = 0
  · simp [c0]
  have hc : ((1 * ((2 ^ 23 + 0 : ℕ) : ℝ)) * (2 : ℝ) ^ ((e.toNat : ℤ) - (2 ^ (8 - 1) - 1) - 23 : ℤ)) = (2 : ℝ) ^ ((e.toNat : ℤ) - 127) := by
    rw [show ((e.toNat : ℤ) - (2 ^ (8 - 1) - 1) - 23 : ℤ) = ((e.toNat : ℤ) - 127) - 23 by norm_num]
    rw [zpow_sub₀ (by norm_num)]
    norm_num
    ring
  simp only [c1, c0]
  simpa [c1] using congrArg (fun r : ℝ => (r : EReal)) hc

/-- The bfloat16 pattern with exponent field `n` denotes the same. -/
theorem ofBits_bf16_field (e : BitVec 8) : Ideal.ofBits .bf16 (e.setWidth 16 <<< 7) = pw e.toNat := by
  have hn : ∀ e : BitVec 8, (((e.setWidth 16 <<< 7 : BitVec 16).extractLsb' 15 1 == 1#1) = false)
      ∧ (e.setWidth 16 <<< 7 : BitVec 16).extractLsb' 7 8 = e ∧ (e.setWidth 16 <<< 7 : BitVec 16).extractLsb' 0 7 = 0#7 := by
    decide
  obtain ⟨h1, h2, h3⟩ := hn e
  simp only [Ideal.ofBits, Ideal.ieee, pw]
  rw [h1, h2, h3]
  by_cases c1 : e.toNat = 255
  · simp [c1]
  by_cases c0 : e.toNat = 0
  · simp [c0]
  have hc : ((1 * ((2 ^ 7 + 0 : ℕ) : ℝ)) * (2 : ℝ) ^ ((e.toNat : ℤ) - (2 ^ (8 - 1) - 1) - 7 : ℤ)) = (2 : ℝ) ^ ((e.toNat : ℤ) - 127) := by
    rw [show ((e.toNat : ℤ) - (2 ^ (8 - 1) - 1) - 7 : ℤ) = ((e.toNat : ℤ) - 127) - 7 by norm_num]
    rw [zpow_sub₀ (by norm_num)]
    norm_num
    ring
  simp only [c1, c0]
  simpa [c1] using congrArg (fun r : ℝ => (r : EReal)) hc

/-! ## Bytes of a word -/

/-- Byte `k` of a word, the lowest first. -/
def byteOf (w : BitVec 32) (k : ℕ) : BitVec 8 := (w >>> (8 * k)).setWidth 8

/-- Both halves of the word that repeats an exponent in two bfloat16 exponent fields are that bfloat16. -/
theorem half_of_pair (e : BitVec 8) (i : ℕ) (hi : i < 2) :
    (((e.setWidth 32 <<< 7 ||| e.setWidth 32 <<< 23) >>> (16 * i)).setWidth 16 : BitVec 16) = e.setWidth 16 <<< 7 := by
  have h : ∀ (i : Fin 2) (e : BitVec 8),
      (((e.setWidth 32 <<< 7 ||| e.setWidth 32 <<< 23) >>> (16 * i.val)).setWidth 16 : BitVec 16) = e.setWidth 16 <<< 7 := by decide
  exact h ⟨i, hi⟩ e

/-- A word shifted down to a byte and masked is that byte. -/
theorem and_255 (w : BitVec 32) : w &&& 255#32 = (w.setWidth 8).setWidth 32 := by
  apply BitVec.eq_of_getLsbD_eq
  intro i hi
  have h255 : (255#32 : BitVec 32).getLsbD i = decide (i < 8) := by
    have : i < 32 := hi
    interval_cases i <;> rfl
  simp only [BitVec.getLsbD_and, BitVec.getLsbD_setWidth, h255]
  by_cases h : i < 8 <;> simp [h, hi]

/-- A word read as narrower elements down its column: the element at an index is the bits of the word in the row holding
    it. -/
theorem bitcast_narrow {s t : Shape} {w : ℕ} (x : s.Idx → BitVec 32) (h : s.Bitcasts 32 t w) (j : t.Idx) (i : s.Idx)
    (n : ℕ) (hn : n * w = 32)
    (hrow : ∀ a : Fin s.rank, a.val + 2 = s.rank → (i a).val = t.row j / n)
    (hoth : ∀ a : Fin s.rank, ¬ a.val + 2 = s.rank → (i a).val = (j (a.cast h.1.symm)).val) :
    bitcast t w x h j = (x i >>> (w * (t.row j % n))).setWidth w := by
  have hw : 0 < w := Nat.pos_of_ne_zero fun h0 => by rw [h0] at hn; omega
  have hn0 : 0 < n := Nat.pos_of_ne_zero fun h0 => by rw [h0] at hn; omega
  apply BitVec.eq_of_getLsbD_eq
  intro q hq
  rw [bitcast_getLsbD x h j q hq (by decide)]
  have hsplit : t.row j * w + q = 32 * (t.row j / n) + ((t.row j % n) * w + q) := by
    conv_lhs => rw [← Nat.div_add_mod (t.row j) n]
    rw [← hn]; ring
  have hlt : (t.row j % n) * w + q < 32 := by
    have h1 : t.row j % n + 1 ≤ n := Nat.mod_lt _ hn0
    have h2 := Nat.mul_le_mul_right w h1
    rw [hn, Nat.add_mul, Nat.one_mul] at h2
    omega
  have e1 : (t.row j * w + q) / 32 = t.row j / n := by omega
  have e2 : (t.row j * w + q) % 32 = w * (t.row j % n) + q := by rw [Nat.mul_comm w]; omega
  have ei : h.srcIdx j ((t.row j * w + q) / 32) (fun a ha =>
      (Nat.div_lt_iff_lt_mul (by decide)).2 (h.pos_lt j q hq a ha)) = i := by
    funext a
    apply Fin.ext
    by_cases ha : a.val + 2 = s.rank
    · rw [h.srcIdx_row _ _ _ a ha, hrow a ha, e1]
    · rw [h.srcIdx_other _ _ _ a ha, hoth a ha]
  rw [ei, e2]
  simp only [BitVec.getLsbD_setWidth, BitVec.getLsbD_ushiftRight, hq, decide_true, Bool.true_and]

/-! ## The convolution at a token -/

/-- An entry of a finite family by a natural number. -/
def at' {n : ℕ} [NeZero n] {α : Type} (f : Fin n → α) (k : ℕ) : α := f (Fin.ofNat n k)

/-- Within range it is the entry. -/
theorem at'_eq {n : ℕ} [NeZero n] {α : Type} (f : Fin n → α) (k : ℕ) (h : k < n) : at' f k = f ⟨k, h⟩ := by
  unfold at'; congr 1; apply Fin.ext; exact Nat.mod_eq_of_lt h

/-- Feature code `q` of the 1728 (64 channels by 27 taps) of a token with column `A` and own codes `x`. -/
def code (A : Fin 424 → BitVec 32) (x : Fin 64 → EReal) (q : ℕ) : EReal :=
  if q / 64 = 13 then at' x (q % 64)
  else Ideal.ofBits .fp8e4m3 (byteOf (at' A ((if q / 64 < 13 then q else q - 64) / 4)) (q % 4))

/-- The scale of tap `k`: the power of two whose exponent field is the tap's byte. -/
def tapScale (A : Fin 424 → BitVec 32) (k : ℕ) : EReal := pw (byteOf (at' A (416 + k / 4)) (k % 4)).toNat

/-- The token's convolution against one output channel's weights. -/
def acc (A : Fin 424 → BitVec 32) (x : Fin 64 → EReal) (w : Fin 1728 → EReal) : EReal :=
  ∑ q ∈ Finset.range 1728, code A x q * tapScale A (q / 64) * at' w q

/-- The layer's result before quantisation: scaled, biased, the skip added, rectified. -/
def layer (A : Fin 424 → BitVec 32) (x : Fin 64 → EReal) (w : Fin 1728 → EReal) (ws b sk : EReal) : EReal :=
  max (acc A x w * ws + b + sk) 0

/-! ## The quantiser -/

/-- The token's greatest value over 448 (the constant as the float32 it is). -/
def frac (Y : Fin 96 → EReal) : EReal :=
  Finset.univ.fold max (Ideal.ofBits .f32 0xFF800000#32) Y * Ideal.ofBits .f32 0x3B124925#32

/-- The quantiser's scale as the reference states it: the least of the powers of two `2 ^ -125, …, 2 ^ 120` above `f`, never
    more than `2 ^ 120`; one where `f` is below the least normal number. -/
def scaleOf (f : EReal) : EReal :=
  if f < pw 1 then 1
  else Finset.univ.fold min ⊤ fun j : Fin 246 => if f < pw (j.val + 2) then pw (j.val + 2) else pw 247

/-- The quantised value. -/
def quant (y s : EReal) : EReal :=
  min (Ideal.ofBits .f32 0x43E00000#32) (max (Ideal.ofBits .f32 0xC3E00000#32) (Ideal.div y s))

/-! ## The exponent field found by bisection -/

/-- One step of the search: take `b` more if the power of two there is still not above `f`. -/
def step (f : EReal) (n b : ℕ) : ℕ := if pw (n + b) ≤ f then n + b else n

/-- The eight steps. -/
def search (f : EReal) : ℕ :=
  step f (step f (step f (step f (step f (step f (step f (step f 0 128) 64) 32) 16) 8) 4) 2) 1

/-- What the search keeps: `n` is zero or its power is not above `f`; the next `w` is past the range or above `f`. -/
def Kept (f : EReal) (w n : ℕ) : Prop := n + w ≤ 256 ∧ (n = 0 ∨ pw n ≤ f) ∧ (n + w = 256 ∨ f < pw (n + w))

/-- A step halves the width. -/
theorem kept_step {f : EReal} {b n : ℕ} (h : Kept f (2 * b) n) : Kept f b (step f n b) := by
  obtain ⟨h1, h2, h3⟩ := h
  unfold step
  split
  · next hle =>
    refine ⟨by omega, Or.inr hle, ?_⟩
    rcases h3 with h3 | h3
    · exact Or.inl (by omega)
    · exact Or.inr (by rwa [show n + b + b = n + 2 * b by omega])
  · next hle => exact ⟨by omega, h2, Or.inr (not_le.1 hle)⟩

/-- What the search finds. -/
theorem kept_search (f : EReal) : Kept f 1 (search f) := by
  unfold search
  exact kept_step (kept_step (kept_step (kept_step (kept_step (kept_step (kept_step (kept_step
    (⟨by omega, Or.inl rfl, Or.inl rfl⟩ : Kept f 256 0))))))))

/-- The exponent field of the scale: one more than the capped field of `f`, or that of one. -/
def scaleField (f : EReal) : ℕ := if min (search f) 246 = 0 then 127 else min (search f) 246 + 1

/-- The scale from the bisection is the reference's. -/
theorem pw_scaleField (f : EReal) : pw (scaleField f) = scaleOf f := by
  obtain ⟨h1, h2, h3⟩ := kept_search f
  unfold scaleField scaleOf
  generalize search f = n at h1 h2 h3
  by_cases hn : n = 0
  · subst hn
    have hlt : f < pw 1 := by
      rcases h3 with h3 | h3
      · omega
      · exact h3
    rw [if_pos (by omega), if_pos hlt, pw_127]
  · have hle : pw n ≤ f := h2.resolve_left hn
    have h1' : ¬ f < pw 1 := not_lt.2 ((pw_mono (by omega) (by omega)).trans hle)
    rw [if_neg (by omega), if_neg h1']
    apply le_antisymm
    · rw [Finset.le_fold_min]
      refine ⟨le_top, fun j _ => ?_⟩
      have hj := j.isLt
      split
      · next hf =>
        refine pw_mono ?_ (by omega)
        by_contra hc
        exact absurd (hf.trans_le ((pw_mono (by omega : j.val + 2 ≤ n) (by omega)).trans hle)) (lt_irrefl _)
      · exact pw_mono (by omega) (by omega)
    · rw [Finset.fold_min_le]
      refine Or.inr ⟨⟨min n 246 - 1, by omega⟩, Finset.mem_univ _, ?_⟩
      have e : (min n 246 - 1) + 2 = min n 246 + 1 := by omega
      simp only [e]
      by_cases hs : n < 246
      · have hm : min n 246 = n := by omega
        rw [hm]
        rw [if_pos (h3.resolve_left (by omega))]
      · have hm : min n 246 = 246 := by omega
        rw [hm]; split <;> exact le_refl _

/-- Multiplying by the power with the mirrored field is dividing by the scale. -/
theorem mul_pw_mirror (y : EReal) {n : ℕ} (h0 : 0 < n) (h1 : n ≤ 247) : y * pw (254 - n) = Ideal.div y (pw n) := by
  have hp : pw n = (((2 : ℝ) ^ ((n : ℤ) - 127) : ℝ) : EReal) := pw_eq (by omega) (by omega)
  have hne : pw n ≠ 0 := by
    rw [hp]
    exact_mod_cast (by positivity : ((2 : ℝ) ^ ((n : ℤ) - 127)) ≠ 0)
  unfold Ideal.div
  rw [if_neg hne]
  congr 1
  rw [hp, pw_eq (by omega) (by omega), ← EReal.coe_inv, ← zpow_neg]
  congr 2
  omega

/-- The scale's field is in range. -/
theorem scaleField_pos (f : EReal) : 0 < scaleField f := by unfold scaleField; split <;> omega
/-- The scale's field is in range. -/
theorem scaleField_le (f : EReal) : scaleField f ≤ 247 := by unfold scaleField; split <;> omega

/-- The quantised value by the mirrored field. -/
theorem mul_mirror_scaleOf (y f : EReal) : y * pw (254 - scaleField f) = Ideal.div y (scaleOf f) := by
  rw [mul_pw_mirror y (scaleField_pos f) (scaleField_le f), pw_scaleField]

end Conv
-- ==== Proof.Block.lean ====
/-
  The kernel body's values in one vocabulary: a tap's products, a chunk of taps for one tile, the accumulation of a pair of
  tiles, the rectified layer, the exponent search, and the two stored blocks — each as the body computes it, for any tile
  of the block. `out0_6` / `out0_7` (what the body leaves in the two outputs' buffers) are these at the four pairs.
-/
module

public import proofs.«01_k».proof.Proof.Gen.KernelIdeal.Frame.Region0
public import proofs.«01_k».proof.Proof.Spec

@[expose] public section

set_option maxRecDepth 16384

noncomputable section

namespace Cert.KernelIdeal.Gen

open Idealize.ShloMosaic

section Body
variable {F : FTy → Type} [FloatOps F]

/-- A tap's scale on sixteen rows: byte `sh / 8` of the tile's word of exponents in both bfloat16 exponent fields of a word. -/
def scaleRows (sh : BitVec 32) (e : Vec F S1x1x128 .i32) : FVec F S16x128 .bf16 :=
  have v : IVec S8x128 32 := broadcastTo S8x128 (shapeCast S1x128 (shapeCast S1x128 e shapeCasts_S1x1x128_S1x128) shapeCasts_S1x128_S1x128) broadcasts_S1x128_S8x128
  have b : IVec S8x128 32 := andi (shrui v (broadcast S8x128 sh)) (broadcast S8x128 255#32)
  bitcastToFloat .bf16 (bitcast S16x128 16 (ori (shli b (broadcast S8x128 7#32)) (shli b (broadcast S8x128 23#32))) bitcasts_S8x128_w32_S16x128_w16)

/-- A tap's codes times its scale. -/
def scaled (sh : BitVec 32) (codes : FVec F S64x128 .fp8e4m3) (e : Vec F S1x1x128 .i32) : FVec F S64x128 .bf16 :=
  mulf (extf .bf16 codes bitsLt_fp8e4m3_bf16)
    (concatenate S64x128 0 [⟨S16x128, scaleRows sh e⟩, ⟨S16x128, scaleRows sh e⟩, ⟨S16x128, scaleRows sh e⟩, ⟨S16x128, scaleRows sh e⟩] concatenates_S16x128_S16x128_S16x128_S16x128_S64x128_d0)

/-- A neighbour tap: its sixteen rows of words read as codes. -/
def tap (sh : BitVec 32) (rows : Vec F S1x16x128 .i32) (e : Vec F S1x1x128 .i32) : FVec F S64x128 .bf16 :=
  scaled sh (bitcastToFloat .fp8e4m3 (bitcast S64x128 8 (shapeCast S16x128 rows shapeCasts_S1x16x128_S16x128) bitcasts_S16x128_w32_S64x128_w8)) e

/-- The centre tap: the token's own codes. -/
def centre (sh : BitVec 32) (x : Vec F S1x64x128 .fp8e4m3) (e : Vec F S1x1x128 .i32) : FVec F S64x128 .bf16 :=
  scaled sh (shapeCast S64x128 x shapeCasts_S1x64x128_S64x128) e

/-- Four taps of one tile. -/
def four (p0 p1 p2 p3 : FVec F S64x128 .bf16) : FVec F S256x128 .bf16 :=
  concatenate S256x128 0 [⟨S64x128, p0⟩, ⟨S64x128, p1⟩, ⟨S64x128, p2⟩, ⟨S64x128, p3⟩] concatenates_S64x128_S64x128_S64x128_S64x128_S256x128_d0

/-- Three taps of one tile. -/
def three (p0 p1 p2 : FVec F S64x128 .bf16) : FVec F S192x128 .bf16 :=
  concatenate S192x128 0 [⟨S64x128, p0⟩, ⟨S64x128, p1⟩, ⟨S64x128, p2⟩] concatenates_S64x128_S64x128_S64x128_S192x128_d0

/-- One chunk of four taps of two tiles added to the accumulator. -/
def accFour (acc : FVec F S96x256 .f32) (l r : FVec F S256x128 .bf16) (w : Vec F S96x256 .fp8e4m3) : FVec F S96x256 .f32 :=
  addf acc (matmul dot_S96x256_S256x256_S96x256_1_0_0_1_n_n none (extf .bf16 (shapeCast S96x256 w shapeCasts_S96x256_S96x256) bitsLt_fp8e4m3_bf16)
    (concatenate S256x256 1 [⟨S256x128, l⟩, ⟨S256x128, r⟩] concatenates_S256x128_S256x128_S256x256_d1) (constant S96x256 .f32 0x00000000#32))

/-- The last chunk, of three taps. -/
def accThree (acc : FVec F S96x256 .f32) (l r : FVec F S192x128 .bf16) (w : Vec F S96x192 .fp8e4m3) : FVec F S96x256 .f32 :=
  addf acc (matmul dot_S96x192_S192x256_S96x256_1_0_0_1_n_n none (extf .bf16 (shapeCast S96x192 w shapeCasts_S96x192_S96x192) bitsLt_fp8e4m3_bf16)
    (concatenate S192x256 1 [⟨S192x128, l⟩, ⟨S192x128, r⟩] concatenates_S192x128_S192x128_S192x256_d1) (constant S96x256 .f32 0x00000000#32))

/-- Rows `16 r` to `16 r + 15` of tile `g`'s gathered words lie in the block. -/
theorem inb_rows (g : Fin 8) (r : Fin 26) : ∀ a, (![g.val, 16 * r.val, 0] : Fin 3 → ℕ) a + S1x16x128.size a ≤ S8x424x128.size a := fun a =>
  match a with
  | ⟨0, _⟩ => by show g.val + 1 ≤ 8; omega
  | ⟨1, _⟩ => by show 16 * r.val + 16 ≤ 424; omega
  | ⟨2, _⟩ => Nat.le_of_eq rfl

/-- Row `416 + k` of tile `g`'s gathered words lies in the block. -/
theorem inb_exps (g : Fin 8) (k : Fin 7) : ∀ a, (![g.val, 416 + k.val, 0] : Fin 3 → ℕ) a + S1x1x128.size a ≤ S8x424x128.size a := fun a =>
  match a with
  | ⟨0, _⟩ => by show g.val + 1 ≤ 8; omega
  | ⟨1, _⟩ => by show 416 + k.val + 1 ≤ 424; omega
  | ⟨2, _⟩ => Nat.le_of_eq rfl

/-- Tile `g`'s lanes of the tokens' own codes lie in the block. -/
theorem inb_own (g : Fin 8) : ∀ a, (![0, 0, 128 * g.val] : Fin 3 → ℕ) a + S1x64x128.size a ≤ S1x64x1024.size a := fun a =>
  match a with
  | ⟨0, _⟩ => Nat.le_of_eq rfl
  | ⟨1, _⟩ => Nat.le_of_eq rfl
  | ⟨2, _⟩ => by show 128 * g.val + 128 ≤ 1024; omega

/-- Chunk `i` of the weights' columns lies in the array. -/
theorem inb_wts (i : Fin 6) : ∀ a, (![0, 256 * i.val] : Fin 2 → ℕ) a + S96x256.size a ≤ S96x1728.size a := fun a =>
  match a with
  | ⟨0, _⟩ => Nat.le_of_eq rfl
  | ⟨1, _⟩ => by show 256 * i.val + 256 ≤ 1728; omega

/-- Pair `p`'s lanes of a channel-major block lie in it. -/
theorem inb_pair (p : Fin 4) : ∀ a, (![0, 0, 256 * p.val] : Fin 3 → ℕ) a + S1x96x256.size a ≤ S1x96x1024.size a := fun a =>
  match a with
  | ⟨0, _⟩ => Nat.le_of_eq rfl
  | ⟨1, _⟩ => Nat.le_of_eq rfl
  | ⟨2, _⟩ => by show 256 * p.val + 256 ≤ 1024; omega

/-- Sixteen rows of tile `g`'s gathered words. -/
def ldRows (x0 : Vec F S8x424x128 .i32) (g : Fin 8) (r : Fin 26) : Vec F S1x16x128 .i32 :=
  View.ld x0 (Rect.unit (s := S8x424x128) ![g.val, 16 * r.val, 0] S1x16x128.size (inb_rows g r))
/-- A row of tile `g`'s exponent words. -/
def ldExps (x0 : Vec F S8x424x128 .i32) (g : Fin 8) (k : Fin 7) : Vec F S1x1x128 .i32 :=
  View.ld x0 (Rect.unit (s := S8x424x128) ![g.val, 416 + k.val, 0] S1x1x128.size (inb_exps g k))
/-- Tile `g`'s own codes. -/
def ldOwn (x1 : Vec F S1x64x1024 .fp8e4m3) (g : Fin 8) : Vec F S1x64x128 .fp8e4m3 :=
  View.ld x1 (Rect.unit (s := S1x64x1024) ![0, 0, 128 * g.val] S1x64x128.size (inb_own g))
/-- A chunk of the weights. -/
def ldWts (x2 : Vec F S96x1728 .fp8e4m3) (i : Fin 6) : Vec F S96x256 .fp8e4m3 :=
  View.ld x2 (Rect.unit (s := S96x1728) ![0, 256 * i.val] S96x256.size (inb_wts i))
/-- Pair `p`'s lanes of the skip. -/
def ldSkip (x5 : Vec F S1x96x1024 .bf16) (p : Fin 4) : Vec F S1x96x256 .bf16 :=
  View.ld x5 (Rect.unit (s := S1x96x1024) ![0, 0, 256 * p.val] S1x96x256.size (inb_pair p))

/-- Four neighbour taps of tile `g`, from sixteen-row group `r` on. -/
def chunk (x0 : Vec F S8x424x128 .i32) (g : Fin 8) (k : Fin 7) (r0 r1 r2 r3 : Fin 26) : FVec F S256x128 .bf16 :=
  four (tap 0#32 (ldRows x0 g r0) (ldExps x0 g k)) (tap 8#32 (ldRows x0 g r1) (ldExps x0 g k))
    (tap 16#32 (ldRows x0 g r2) (ldExps x0 g k)) (tap 24#32 (ldRows x0 g r3) (ldExps x0 g k))

/-- Taps 12 to 15 of tile `g`, the centre among them. -/
def chunkC (x0 : Vec F S8x424x128 .i32) (x1 : Vec F S1x64x1024 .fp8e4m3) (g : Fin 8) : FVec F S256x128 .bf16 :=
  four (tap 0#32 (ldRows x0 g 12) (ldExps x0 g 3)) (centre 8#32 (ldOwn x1 g) (ldExps x0 g 3))
    (tap 16#32 (ldRows x0 g 13) (ldExps x0 g 3)) (tap 24#32 (ldRows x0 g 14) (ldExps x0 g 3))

/-- Taps 24 to 26 of tile `g`. -/
def chunkL (x0 : Vec F S8x424x128 .i32) (g : Fin 8) : FVec F S192x128 .bf16 :=
  three (tap 0#32 (ldRows x0 g 23) (ldExps x0 g 6)) (tap 8#32 (ldRows x0 g 24) (ldExps x0 g 6))
    (tap 16#32 (ldRows x0 g 25) (ldExps x0 g 6))

/-- The convolution of a pair of tiles. -/
def conv (x0 : Vec F S8x424x128 .i32) (x1 : Vec F S1x64x1024 .fp8e4m3) (x2 : Vec F S96x1728 .fp8e4m3) (g g' : Fin 8) : FVec F S96x256 .f32 :=
  accThree (accFour (accFour (accFour (accFour (accFour (accFour (broadcast S96x256 (Scalar.ofBits .f32 0x00000000#32))
      (chunk x0 g 0 0 1 2 3) (chunk x0 g' 0 0 1 2 3) (ldWts x2 0))
      (chunk x0 g 1 4 5 6 7) (chunk x0 g' 1 4 5 6 7) (ldWts x2 1))
      (chunk x0 g 2 8 9 10 11) (chunk x0 g' 2 8 9 10 11) (ldWts x2 2))
      (chunkC x0 x1 g) (chunkC x0 x1 g') (ldWts x2 3))
      (chunk x0 g 4 15 16 17 18) (chunk x0 g' 4 15 16 17 18) (ldWts x2 4))
      (chunk x0 g 5 19 20 21 22) (chunk x0 g' 5 19 20 21 22) (ldWts x2 5))
      (chunkL x0 g) (chunkL x0 g') (View.ld x2 r0_74)

/-- The rectified layer of a pair of tiles. -/
def layerV (x0 : Vec F S8x424x128 .i32) (x1 : Vec F S1x64x1024 .fp8e4m3) (x2 : Vec F S96x1728 .fp8e4m3) (x3 x4 : Vec F S96x1 .f32) (x5 : Vec F S1x96x1024 .bf16)
    (g g' : Fin 8) (p : Fin 4) : FVec F S96x256 .f32 :=
  maximumf
    (addf
      (addf
        (mulf (conv x0 x1 x2 g g') (broadcastTo S96x256 (shapeCast S96x1 (View.ld x3 r0_75) shapeCasts_S96x1_S96x1) broadcasts_S96x1_S96x256))
        (broadcastTo S96x256 (shapeCast S96x1 (View.ld x4 r0_75) shapeCasts_S96x1_S96x1) broadcasts_S96x1_S96x256))
      (extf .f32 (shapeCast S96x256 (ldSkip x5 p) shapeCasts_S1x96x256_S96x256) bitsLt_bf16_f32))
    (broadcast S96x256 (Scalar.ofBits .f32 0x00000000#32))

/-- Each token's greatest value over 448. -/
def fracV (y : FVec F S96x256 .f32) : FVec F S1x256 .f32 :=
  mulf (shapeCast S1x256 (multiReduction .maximumf [0] S256 y 0xFF800000#32 reduces_S96x256_S256 (.inl rfl) rfl) shapeCasts_S256_S1x256)
    (broadcast S1x256 (Scalar.ofBits .f32 0x3B124925#32))

/-- One step of the exponent search. -/
def stepV (f : FVec F S1x256 .f32) (e : IVec S1x256 32) (b : BitVec 32) : IVec S1x256 32 :=
  select (cmpf .oge f (bitcastToFloat .f32 (shli (addi e (broadcast S1x256 b)) (broadcast S1x256 23#32)))) (addi e (broadcast S1x256 b)) e

/-- The exponent search. -/
def searchV (f : FVec F S1x256 .f32) : IVec S1x256 32 :=
  stepV f (stepV f (stepV f (stepV f (stepV f (stepV f (stepV f (stepV f (broadcast S1x256 0#32) 128#32) 64#32) 32#32) 16#32) 8#32) 4#32) 2#32) 1#32

/-- The scale's exponent, from the field the search found. -/
def expoV (e : IVec S1x256 32) : IVec S1x256 32 :=
  select (cmpi .eq (minsi e (broadcast S1x256 246#32)) (broadcast S1x256 0#32)) (broadcast S1x256 0#32)
    (subi (minsi e (broadcast S1x256 246#32)) (broadcast S1x256 126#32))

/-- The scales of a pair of tiles. -/
def scaleV (e : IVec S1x256 32) : FVec F S1x256 .f32 :=
  bitcastToFloat .f32 (shli (addi (expoV e) (broadcast S1x256 127#32)) (broadcast S1x256 23#32))

/-- The quantised block of a pair of tiles. -/
def codesV (y : FVec F S96x256 .f32) (e : IVec S1x256 32) : FVec F S1x96x256 .fp8e4m3 :=
  shapeCast S1x96x256
    (truncf .fp8e4m3
      (minimumf (broadcast S96x256 (Scalar.ofBits .f32 0x43E00000#32))
        (maximumf (broadcast S96x256 (Scalar.ofBits .f32 0xC3E00000#32))
          (mulf y (broadcastTo S96x256 (bitcastToFloat .f32 (shli (subi (broadcast S1x256 127#32) (expoV e)) (broadcast S1x256 23#32))) broadcasts_S1x256_S96x256))))
      bitsLt_fp8e4m3_f32) shapeCasts_S96x256_S1x96x256

variable (x0 : Vec F S8x424x128 .i32) (x1 : Vec F S1x64x1024 .fp8e4m3) (x2 : Vec F S96x1728 .fp8e4m3) (x3 x4 : Vec F S96x1 .f32) (x5 : Vec F S1x96x1024 .bf16)

/-- What pair `p`'s tiles leave: the codes. -/
def codesP (g g' : Fin 8) (p : Fin 4) : FVec F S1x96x256 .fp8e4m3 :=
  codesV (layerV x0 x1 x2 x3 x4 x5 g g' p) (searchV (fracV (layerV x0 x1 x2 x3 x4 x5 g g' p)))
/-- What pair `p`'s tiles leave: the scales. -/
def scaleP (g g' : Fin 8) (p : Fin 4) : FVec F S1x256 .f32 :=
  scaleV (searchV (fracV (layerV x0 x1 x2 x3 x4 x5 g g' p)))

set_option maxHeartbeats 4000000 in
/-- The codes' buffer after the body is the four pairs' blocks. -/
theorem out0_6_eq : out0_6 x0 x1 x2 x3 x4 x5 = View.canon [⟨r0_289, codesP x0 x1 x2 x3 x4 x5 6 7 3⟩, ⟨r0_218, codesP x0 x1 x2 x3 x4 x5 4 5 2⟩,
    ⟨r0_147, codesP x0 x1 x2 x3 x4 x5 2 3 1⟩, ⟨r0_76, codesP x0 x1 x2 x3 x4 x5 0 1 0⟩] := by
  rfl

set_option maxHeartbeats 4000000 in
/-- The scales' buffer after the body is the four pairs' rows. -/
theorem out0_7_eq : out0_7 x0 x1 x2 x3 x4 x5 = View.canon
    [⟨r0_291, extractStridedSlice S1x128 ![0, 128] (scaleP x0 x1 x2 x3 x4 x5 6 7 3) slices_S1x256_o0_128_S1x128⟩,
     ⟨r0_290, extractStridedSlice S1x128 ![0, 0] (scaleP x0 x1 x2 x3 x4 x5 6 7 3) slices_S1x256_o0_0_S1x128⟩,
     ⟨r0_220, extractStridedSlice S1x128 ![0, 128] (scaleP x0 x1 x2 x3 x4 x5 4 5 2) slices_S1x256_o0_128_S1x128⟩,
     ⟨r0_219, extractStridedSlice S1x128 ![0, 0] (scaleP x0 x1 x2 x3 x4 x5 4 5 2) slices_S1x256_o0_0_S1x128⟩,
     ⟨r0_149, extractStridedSlice S1x128 ![0, 128] (scaleP x0 x1 x2 x3 x4 x5 2 3 1) slices_S1x256_o0_128_S1x128⟩,
     ⟨r0_148, extractStridedSlice S1x128 ![0, 0] (scaleP x0 x1 x2 x3 x4 x5 2 3 1) slices_S1x256_o0_0_S1x128⟩,
     ⟨r0_78, extractStridedSlice S1x128 ![0, 128] (scaleP x0 x1 x2 x3 x4 x5 0 1 0) slices_S1x256_o0_128_S1x128⟩,
     ⟨r0_77, extractStridedSlice S1x128 ![0, 0] (scaleP x0 x1 x2 x3 x4 x5 0 1 0) slices_S1x256_o0_0_S1x128⟩] := by
  rfl

end Body

end Cert.KernelIdeal.Gen
-- ==== Proof.BlockValue.lean ====
/-
  The kernel body's values over the extended reals, read at one token: its two outputs are `Conv.quant` and `Conv.scaleOf`
  of that token's column of gathered words, own codes, weights, scales, bias and skip.
-/
module

public import proofs.«01_k».proof.Proof.Block

@[expose] public section

set_option maxRecDepth 16384

noncomputable section

namespace Cert.KernelIdeal.Gen

open Idealize.ShloMosaic
open scoped BigOperators

/-! ## The taps -/

/-- A byte of a word by shift and mask. -/
theorem byte_mask (u : ArithUnit) (w : BitVec 32) {i : ℕ} (hi : i < 4) :
    IntOp.shrui u w (BitVec.ofNat 32 (8 * i)) &&& 255#32 = (Conv.byteOf w i).setWidth 32 := by
  rw [Conv.and_255]
  unfold Conv.byteOf IntOp.shrui
  have e : (BitVec.ofNat 32 (8 * i)).toNat = 8 * i := by
    rw [BitVec.toNat_ofNat]; exact Nat.mod_eq_of_lt (by omega)
  rw [if_pos (by rw [e]; omega), BitVec.ushiftRight_eq', e]

/-- A tap's scale at any of its rows. -/
theorem scaleRows_apply {i : ℕ} (hi : i < 4) (e : Vec Ideal S1x1x128 .i32) (r : Fin 16) (j : Fin 128) :
    scaleRows (F := Ideal) (BitVec.ofNat 32 (8 * i)) e (ix2 r j) = Conv.pw (Conv.byteOf (e (ix3 0 0 j)) i).toNat := by
  unfold scaleRows
  show Ideal.ofBits .bf16 (bitcast S16x128 16 _ _ (ix2 r j)) = _
  rw [Conv.bitcast_narrow _ _ (ix2 r j) (ix2 (⟨r.val / 2, by omega⟩ : Fin 8) j) 2 rfl
    (by intro a ha; match a with
      | ⟨0, _⟩ => rfl
      | ⟨1, _⟩ => exact absurd (show (1 : ℕ) + 2 = 2 from ha) (by decide))
    (by intro a ha; match a with
      | ⟨0, _⟩ => exact absurd rfl ha
      | ⟨1, _⟩ => rfl)]
  have h : (ori (shli (andi (shrui (broadcastTo S8x128 (shapeCast S1x128 (shapeCast S1x128 e shapeCasts_S1x1x128_S1x128) shapeCasts_S1x128_S1x128) broadcasts_S1x128_S8x128) (broadcast S8x128 (BitVec.ofNat 32 (8 * i)))) (broadcast S8x128 255#32)) (broadcast S8x128 7#32))
      (shli (andi (shrui (broadcastTo S8x128 (shapeCast S1x128 (shapeCast S1x128 e shapeCasts_S1x1x128_S1x128) shapeCasts_S1x128_S1x128) broadcasts_S1x128_S8x128) (broadcast S8x128 (BitVec.ofNat 32 (8 * i)))) (broadcast S8x128 255#32)) (broadcast S8x128 23#32))) (ix2 (⟨r.val / 2, by omega⟩ : Fin 8) j)
      = (Conv.byteOf (e (ix3 0 0 j)) i).setWidth 32 <<< 7 ||| (Conv.byteOf (e (ix3 0 0 j)) i).setWidth 32 <<< 23 := by
    pointwise
    simp only [IntOp.andi, byte_mask _ _ hi]
    rfl
  rw [h, Conv.half_of_pair _ _ (Nat.mod_lt _ (by decide)), Conv.ofBits_bf16_field]

/-- A tap's codes read from sixteen rows of words. -/
theorem codes_apply (rows : Vec Ideal S1x16x128 .i32) (d : Fin 64) (j : Fin 128) :
    bitcastToFloat (F := Ideal) .fp8e4m3 (bitcast S64x128 8 (shapeCast S16x128 rows shapeCasts_S1x16x128_S16x128) bitcasts_S16x128_w32_S64x128_w8) (ix2 d j)
      = Ideal.ofBits .fp8e4m3 (Conv.byteOf (rows (ix3 0 (⟨d.val / 4, by omega⟩ : Fin 16) j)) (d.val % 4)) := by
  show Ideal.ofBits .fp8e4m3 (bitcast S64x128 8 _ _ (ix2 d j)) = _
  rw [Conv.bitcast_narrow _ _ (ix2 d j) (ix2 (⟨d.val / 4, by omega⟩ : Fin 16) j) 4 rfl
    (by intro a ha; match a with
      | ⟨0, _⟩ => rfl
      | ⟨1, _⟩ => exact absurd (show (1 : ℕ) + 2 = 2 from ha) (by decide))
    (by intro a ha; match a with
      | ⟨0, _⟩ => exact absurd rfl ha
      | ⟨1, _⟩ => rfl)]
  have h : shapeCast S16x128 rows shapeCasts_S1x16x128_S16x128 (ix2 (⟨d.val / 4, by omega⟩ : Fin 16) j) = rows (ix3 0 (⟨d.val / 4, by omega⟩ : Fin 16) j) := by
    pointwise
  rw [h]
  rfl

/-- Codes times the tap's scale. -/
theorem scaled_apply {i : ℕ} (hi : i < 4) (c : FVec Ideal S64x128 .fp8e4m3) (e : Vec Ideal S1x1x128 .i32) (d : Fin 64) (j : Fin 128) :
    scaled (F := Ideal) (BitVec.ofNat 32 (8 * i)) c e (ix2 d j) = c (ix2 d j) * Conv.pw (Conv.byteOf (e (ix3 0 0 j)) i).toNat := by
  pointwise [scaled]
  simp only [scaleRows_apply hi, dite_eq_ite, ite_self]

/-- A token's column of gathered words. -/
def col (x0 : Vec Ideal S8x424x128 .i32) (g : Fin 8) (j : Fin 128) : Fin 424 → BitVec 32 := fun r => x0 (ix3 g r j)

/-- A token's own codes. -/
def own (x1 : Vec Ideal S1x64x1024 .fp8e4m3) (g : Fin 8) (j : Fin 128) : Fin 64 → EReal :=
  fun d => x1 (ix3 0 d (⟨128 * g.val + j.val, by omega⟩ : Fin 1024))

/-- Code `q` of a token times its tap's scale. -/
def term (A : Fin 424 → BitVec 32) (x : Fin 64 → EReal) (q : ℕ) : EReal := Conv.code A x q * Conv.tapScale A (q / 64)

/-- The row a neighbour tap's words start at: the centre has none. -/
def rowsOf (t : ℕ) : ℕ := if t < 13 then t else t - 1

/-- A neighbour tap of a tile at a channel. -/
theorem tap_apply (x0 : Vec Ideal S8x424x128 .i32) (x : Fin 64 → EReal) (g : Fin 8) (r : Fin 26) (k : Fin 7) {i : ℕ} (hi : i < 4)
    (hr : r.val = rowsOf (4 * k.val + i)) (h13 : 4 * k.val + i ≠ 13) (d : Fin 64) (j : Fin 128) :
    tap (F := Ideal) (BitVec.ofNat 32 (8 * i)) (ldRows x0 g r) (ldExps x0 g k) (ix2 d j)
      = term (col x0 g j) x (64 * (4 * k.val + i) + d.val) := by
  unfold tap
  rw [scaled_apply hi, codes_apply]
  have e1 : ldRows x0 g r (ix3 0 (⟨d.val / 4, by omega⟩ : Fin 16) j) = col x0 g j ⟨16 * r.val + d.val / 4, by omega⟩ := by
    unfold ldRows col
    pointwise
  have e2 : ldExps x0 g k (ix3 0 0 j) = col x0 g j ⟨416 + k.val, by omega⟩ := by
    unfold ldExps col
    pointwise
  rw [e1, e2]
  unfold term Conv.code Conv.tapScale
  have q1 : (64 * (4 * k.val + i) + d.val) / 64 = 4 * k.val + i := by omega
  have q2 : (4 * k.val + i) / 4 = k.val := by omega
  have q3 : (4 * k.val + i) % 4 = i := by omega
  rw [q1, if_neg h13, q2, q3, Conv.at'_eq _ (416 + k.val) (by omega)]
  unfold rowsOf at hr
  have hd := d.isLt
  have hrl := r.isLt
  have q4 : (if 4 * k.val + i < 13 then 64 * (4 * k.val + i) + d.val else 64 * (4 * k.val + i) + d.val - 64) / 4 = 16 * r.val + d.val / 4 := by
    split at hr <;> rename_i hc
    · rw [if_pos hc]; omega
    · rw [if_neg hc]; omega
  have q5 : (64 * (4 * k.val + i) + d.val) % 4 = d.val % 4 := by omega
  rw [q4, q5, Conv.at'_eq _ (16 * r.val + d.val / 4) (by omega)]

/-- The centre tap of a tile at a channel. -/
theorem centre_apply (x0 : Vec Ideal S8x424x128 .i32) (x1 : Vec Ideal S1x64x1024 .fp8e4m3) (g : Fin 8) (d : Fin 64) (j : Fin 128) :
    centre (F := Ideal) 8#32 (ldOwn x1 g) (ldExps x0 g 3) (ix2 d j) = term (col x0 g j) (own x1 g j) (64 * 13 + d.val) := by
  unfold centre
  rw [show (8#32 : BitVec 32) = BitVec.ofNat 32 (8 * 1) from rfl, scaled_apply (by decide)]
  have e1 : shapeCast S64x128 (ldOwn x1 g) shapeCasts_S1x64x128_S64x128 (ix2 d j) = own x1 g j d := by
    unfold ldOwn own
    pointwise
  have e2 : ldExps x0 g 3 (ix3 0 0 j) = col x0 g j ⟨419, by omega⟩ := by
    unfold ldExps col
    pointwise
  rw [e1, e2]
  unfold term Conv.code Conv.tapScale
  have q1 : (64 * 13 + d.val) / 64 = 13 := by omega
  have q2 : (64 * 13 + d.val) % 64 = d.val := by omega
  rw [q1, if_pos rfl, q2, Conv.at'_eq _ d.val d.isLt]
  rfl

/-! ## Chunks of taps -/

/-- Four taps stacked, at a row: the tap holding it. -/
theorem four_apply (p0 p1 p2 p3 : FVec Ideal S64x128 .bf16) (T : ℕ → EReal) (n : ℕ) (j : Fin 128)
    (h0 : ∀ d : Fin 64, p0 (ix2 d j) = T (64 * (4 * n) + d.val)) (h1 : ∀ d : Fin 64, p1 (ix2 d j) = T (64 * (4 * n + 1) + d.val))
    (h2 : ∀ d : Fin 64, p2 (ix2 d j) = T (64 * (4 * n + 2) + d.val)) (h3 : ∀ d : Fin 64, p3 (ix2 d j) = T (64 * (4 * n + 3) + d.val))
    (q : Fin 256) : four (F := Ideal) p0 p1 p2 p3 (ix2 q j) = T (256 * n + q.val) := by
  pointwise [four]
  have hq := q.isLt
  split
  · rw [h0]; congr 1; simp only; omega
  split
  · rw [h1]; congr 1; simp only; omega
  split
  · rw [h2]; congr 1; simp only; omega
  · rw [h3]; congr 1; simp only; omega

/-- Three taps stacked, at a row. -/
theorem three_apply (p0 p1 p2 : FVec Ideal S64x128 .bf16) (T : ℕ → EReal) (n : ℕ) (j : Fin 128)
    (h0 : ∀ d : Fin 64, p0 (ix2 d j) = T (64 * (4 * n) + d.val)) (h1 : ∀ d : Fin 64, p1 (ix2 d j) = T (64 * (4 * n + 1) + d.val))
    (h2 : ∀ d : Fin 64, p2 (ix2 d j) = T (64 * (4 * n + 2) + d.val))
    (q : Fin 192) : three (F := Ideal) p0 p1 p2 (ix2 q j) = T (256 * n + q.val) := by
  pointwise [three]
  have hq := q.isLt
  split
  · rw [h0]; congr 1; simp only; omega
  split
  · rw [h1]; congr 1; simp only; omega
  · rw [h2]; congr 1; simp only; omega

section Chunks
variable (x0 : Vec Ideal S8x424x128 .i32) (x1 : Vec Ideal S1x64x1024 .fp8e4m3) (x : Fin 64 → EReal) (g : Fin 8) (j : Fin 128)

/-- Four neighbour taps of a tile. -/
theorem chunk_apply (k : Fin 7) (r0 r1 r2 r3 : Fin 26) (h13 : k.val ≠ 3)
    (h0 : r0.val = rowsOf (4 * k.val + 0)) (h1 : r1.val = rowsOf (4 * k.val + 1)) (h2 : r2.val = rowsOf (4 * k.val + 2))
    (h3 : r3.val = rowsOf (4 * k.val + 3)) (q : Fin 256) :
    chunk (F := Ideal) x0 g k r0 r1 r2 r3 (ix2 q j) = term (col x0 g j) x (256 * k.val + q.val) :=
  four_apply _ _ _ _ _ _ _ (tap_apply x0 x g r0 k (i := 0) (by decide) h0 (by omega) · j)
    (tap_apply x0 x g r1 k (i := 1) (by decide) h1 (by omega) · j) (tap_apply x0 x g r2 k (i := 2) (by decide) h2 (by omega) · j)
    (tap_apply x0 x g r3 k (i := 3) (by decide) h3 (by omega) · j) q

/-- Taps 12 to 15 of a tile. -/
theorem chunkC_apply (q : Fin 256) :
    chunkC (F := Ideal) x0 x1 g (ix2 q j) = term (col x0 g j) (own x1 g j) (256 * 3 + q.val) :=
  four_apply _ _ _ _ _ 3 _ (tap_apply x0 _ g 12 3 (i := 0) (by decide) rfl (by decide) · j)
    (centre_apply x0 x1 g · j) (tap_apply x0 _ g 13 3 (i := 2) (by decide) rfl (by decide) · j)
    (tap_apply x0 _ g 14 3 (i := 3) (by decide) rfl (by decide) · j) q

/-- Taps 24 to 26 of a tile. -/
theorem chunkL_apply (q : Fin 192) :
    chunkL (F := Ideal) x0 g (ix2 q j) = term (col x0 g j) x (256 * 6 + q.val) :=
  three_apply _ _ _ _ 6 _ (tap_apply x0 _ g 23 6 (i := 0) (by decide) rfl (by decide) · j)
    (tap_apply x0 _ g 24 6 (i := 1) (by decide) rfl (by decide) · j)
    (tap_apply x0 _ g 25 6 (i := 2) (by decide) rfl (by decide) · j) q

end Chunks

/-! ## The convolution of a pair of tiles -/

/-- The lane of a pair's block that holds token `j` of its first or second tile. -/
def lane (s : Fin 2) (j : Fin 128) : Fin 256 := ⟨128 * s.val + j.val, by omega⟩

/-- The first or the second. -/
def pick {α : Type} (s : Fin 2) (l r : α) : α := if s = 0 then l else r

/-- A function of the tile picked. -/
theorem pick_map {α β : Type} (f : α → β) (s : Fin 2) (l r : α) : pick s (f l) (f r) = f (pick s l r) := by
  unfold pick; split <;> rfl

/-- Two blocks side by side, at a lane: the one holding it. -/
theorem pick_lane {K : ℕ} (l r : (⟨2, ![K, 128]⟩ : Shape).Idx → EReal) (q : Fin K) (s : Fin 2) (j : Fin 128)
    (hr : ¬ (lane s j).val < 128 → (lane s j).val - 128 < 128) :
    (if h : (lane s j).val < 128 then l (ix2 q ⟨(lane s j).val, h⟩) else r (ix2 q ⟨(lane s j).val - 128, hr h⟩)) = pick s l r (ix2 q j) := by
  have hj := j.isLt
  match s with
  | ⟨0, _⟩ =>
    have h : (lane ⟨0, by decide⟩ j).val = j.val := by show 128 * 0 + j.val = j.val; omega
    exact (dif_pos (by omega)).trans (congrArg (fun i => l (ix2 q i)) (Fin.ext h))
  | ⟨1, _⟩ =>
    have h : (lane ⟨1, by decide⟩ j).val = 128 + j.val := rfl
    exact (dif_neg (by omega)).trans (congrArg (fun i => r (ix2 q i)) (Fin.ext (by show _ - 128 = j.val; omega)))

/-- A chunk of four taps added, at a token. -/
theorem accFour_apply (a : FVec Ideal S96x256 .f32) (l r : FVec Ideal S256x128 .bf16) (w : Vec Ideal S96x256 .fp8e4m3)
    (c : Fin 96) (s : Fin 2) (j : Fin 128) :
    accFour (F := Ideal) a l r w (ix2 c (lane s j)) = a (ix2 c (lane s j)) + ∑ q : Fin 256, pick s l r (ix2 q j) * w (ix2 c q) := by
  pointwise [accFour]
  refine congrArg (a (ix2 c (lane s j)) + ·) (Finset.sum_congr rfl fun q _ => ?_)
  rw [mul_comm]
  exact congrArg (· * w (ix2 c q)) (pick_lane l r q s j _)

/-- The last chunk, at a token. -/
theorem accThree_apply (a : FVec Ideal S96x256 .f32) (l r : FVec Ideal S192x128 .bf16) (w : Vec Ideal S96x192 .fp8e4m3)
    (c : Fin 96) (s : Fin 2) (j : Fin 128) :
    accThree (F := Ideal) a l r w (ix2 c (lane s j)) = a (ix2 c (lane s j)) + ∑ q : Fin 192, pick s l r (ix2 q j) * w (ix2 c q) := by
  pointwise [accThree]
  refine congrArg (a (ix2 c (lane s j)) + ·) (Finset.sum_congr rfl fun q _ => ?_)
  rw [mul_comm]
  exact congrArg (· * w (ix2 c q)) (pick_lane l r q s j _)

/-- A sum over the 1728 codes in the body's seven chunks. -/
theorem sum_chunks (T : ℕ → EReal) : ∑ q ∈ Finset.range 1728, T q
    = 0 + (∑ q : Fin 256, T (256 * 0 + q.val)) + (∑ q : Fin 256, T (256 * 1 + q.val)) + (∑ q : Fin 256, T (256 * 2 + q.val))
      + (∑ q : Fin 256, T (256 * 3 + q.val)) + (∑ q : Fin 256, T (256 * 4 + q.val)) + (∑ q : Fin 256, T (256 * 5 + q.val))
      + ∑ q : Fin 192, T (256 * 6 + q.val) := by
  rw [show (1728 : ℕ) = 256 * 6 + 192 from rfl, Finset.sum_range_add, show 256 * 6 = 256 * 5 + 256 from rfl, Finset.sum_range_add,
    show 256 * 5 = 256 * 4 + 256 from rfl, Finset.sum_range_add, show 256 * 4 = 256 * 3 + 256 from rfl, Finset.sum_range_add,
    show 256 * 3 = 256 * 2 + 256 from rfl, Finset.sum_range_add, show 256 * 2 = 256 * 1 + 256 from rfl, Finset.sum_range_add,
    show 256 * 1 = 256 * 0 + 256 from rfl, Finset.sum_range_add]
  simp only [Finset.sum_range, Nat.mul_zero, Finset.univ_eq_empty, Finset.sum_empty]

section Conv'
variable (x0 : Vec Ideal S8x424x128 .i32) (x1 : Vec Ideal S1x64x1024 .fp8e4m3) (x2 : Vec Ideal S96x1728 .fp8e4m3)

/-- Output channel `c`'s weights. -/
def wts (c : Fin 96) : Fin 1728 → EReal := fun q => x2 (ix2 c q)

/-- The convolution of a pair of tiles, at a token of one of them. -/
theorem conv_apply (g g' : Fin 8) (c : Fin 96) (s : Fin 2) (j : Fin 128) :
    conv (F := Ideal) x0 x1 x2 g g' (ix2 c (lane s j))
      = Conv.acc (col x0 (pick s g g') j) (own x1 (pick s g g') j) (wts x2 c) := by
  have hw : ∀ (i : Fin 6) (q : Fin 256), ldWts x2 i (ix2 c q) = Conv.at' (wts x2 c) (256 * i.val + q.val) := by
    intro i q
    rw [Conv.at'_eq _ _ (by omega)]
    unfold ldWts wts
    pointwise
  have hw' : ∀ q : Fin 192, View.ld x2 r0_74 (ix2 c q) = Conv.at' (wts x2 c) (256 * 6 + q.val) := by
    intro q
    rw [Conv.at'_eq _ _ (by omega)]
    unfold wts r0_74
    pointwise
  have hk : ∀ (k : Fin 7) (r0 r1 r2 r3 : Fin 26) (h13 : k.val ≠ 3)
      (h0 : r0.val = rowsOf (4 * k.val + 0)) (h1 : r1.val = rowsOf (4 * k.val + 1)) (h2 : r2.val = rowsOf (4 * k.val + 2))
      (h3 : r3.val = rowsOf (4 * k.val + 3)) (q : Fin 256),
      pick s (chunk (F := Ideal) x0 g k r0 r1 r2 r3) (chunk (F := Ideal) x0 g' k r0 r1 r2 r3) (ix2 q j)
        = term (col x0 (pick s g g') j) (own x1 (pick s g g') j) (256 * k.val + q.val) := by
    intro k r0 r1 r2 r3 h13 h0 h1 h2 h3 q
    rw [pick_map (fun g => chunk (F := Ideal) x0 g k r0 r1 r2 r3)]
    exact chunk_apply x0 _ _ j k r0 r1 r2 r3 h13 h0 h1 h2 h3 q
  unfold conv Conv.acc
  rw [sum_chunks, accThree_apply, accFour_apply, accFour_apply, accFour_apply, accFour_apply, accFour_apply, accFour_apply,
    pick_map (fun g => chunkC (F := Ideal) x0 x1 g), pick_map (fun g => chunkL (F := Ideal) x0 g)]
  simp only [hw, hw', chunkC_apply, chunkL_apply x0 (own x1 (pick s g g') j)]
  simp only [hk 0 0 1 2 3 (by decide) rfl rfl rfl rfl, hk 1 4 5 6 7 (by decide) rfl rfl rfl rfl, hk 2 8 9 10 11 (by decide) rfl rfl rfl rfl,
    hk 4 15 16 17 18 (by decide) rfl rfl rfl rfl, hk 5 19 20 21 22 (by decide) rfl rfl rfl rfl]
  have hz : broadcast S96x256 (Scalar.ofBits (F := Ideal) .f32 0x00000000#32) (ix2 c (lane s j)) = (0 : EReal) := by
    pointwise
  rw [hz]
  rfl

end Conv'

/-! ## The layer and the quantiser of a pair of tiles -/

section Pair
variable (x0 : Vec Ideal S8x424x128 .i32) (x1 : Vec Ideal S1x64x1024 .fp8e4m3) (x2 : Vec Ideal S96x1728 .fp8e4m3)
  (x3 x4 : Vec Ideal S96x1 .f32) (x5 : Vec Ideal S1x96x1024 .bf16)

/-- The layer's result at channel `c` of token `j` of tile `g`. -/
def tokenLayer (g : Fin 8) (j : Fin 128) (c : Fin 96) : EReal :=
  Conv.layer (col x0 g j) (own x1 g j) (wts x2 c) (x3 (ix2 c 0)) (x4 (ix2 c 0)) (x5 (ix3 0 c (⟨128 * g.val + j.val, by omega⟩ : Fin 1024)))

/-- The rectified layer of a pair of tiles, at a token of one of them. -/
theorem layerV_apply (g g' : Fin 8) (p : Fin 4) (hp : ∀ s : Fin 2, (pick s g g').val = 2 * p.val + s.val) (c : Fin 96) (s : Fin 2) (j : Fin 128) :
    layerV (F := Ideal) x0 x1 x2 x3 x4 x5 g g' p (ix2 c (lane s j)) = tokenLayer x0 x1 x2 x3 x4 x5 (pick s g g') j c := by
  have hs : shapeCast S96x256 (ldSkip x5 p) shapeCasts_S1x96x256_S96x256 (ix2 c (lane s j))
      = x5 (ix3 0 c (⟨128 * (pick s g g').val + j.val, by omega⟩ : Fin 1024)) := by
    have hl : 256 * p.val + (lane s j).val = 128 * (pick s g g').val + j.val := by
      rw [hp]; show 256 * p.val + (128 * s.val + j.val) = _; omega
    simp only [← hl]
    unfold ldSkip
    pointwise
  have h3 : ∀ x : Vec Ideal S96x1 .f32, broadcastTo S96x256 (shapeCast S96x1 (View.ld x r0_75) shapeCasts_S96x1_S96x1) broadcasts_S96x1_S96x256 (ix2 c (lane s j)) = x (ix2 c 0) := by
    intro x
    unfold r0_75
    pointwise
  unfold layerV tokenLayer Conv.layer
  show max (conv (F := Ideal) x0 x1 x2 g g' (ix2 c (lane s j)) * broadcastTo S96x256 (shapeCast S96x1 (View.ld x3 r0_75) shapeCasts_S96x1_S96x1) broadcasts_S96x1_S96x256 (ix2 c (lane s j))
      + broadcastTo S96x256 (shapeCast S96x1 (View.ld x4 r0_75) shapeCasts_S96x1_S96x1) broadcasts_S96x1_S96x256 (ix2 c (lane s j))
      + shapeCast S96x256 (ldSkip x5 p) shapeCasts_S1x96x256_S96x256 (ix2 c (lane s j))) (broadcast S96x256 (Scalar.ofBits (F := Ideal) .f32 0x00000000#32) (ix2 c (lane s j))) = _
  rw [conv_apply, hs, h3, h3]
  pointwise

end Pair

/-- The greatest value of a token over 448. -/
theorem fracV_apply (y : FVec Ideal S96x256 .f32) (m : Fin 256) :
    fracV (F := Ideal) y (ix2 0 m) = Conv.frac fun c => y (ix2 c m) := by
  unfold fracV Conv.frac
  pointwise

/-- A word whose only set bits are an exponent field, as a float32. -/
theorem ofBits_pw {n : ℕ} (hn : n < 256) : Ideal.ofBits .f32 (IntOp.shli .vector (BitVec.ofNat 32 n) 23#32) = Conv.pw n := by
  have e : IntOp.shli .vector (BitVec.ofNat 32 n) 23#32 = (BitVec.ofNat 8 n).setWidth 32 <<< 23 := by
    have e' : (BitVec.ofNat 8 n).setWidth 32 = BitVec.ofNat 32 n := by
      apply BitVec.eq_of_toNat_eq
      simp only [BitVec.toNat_setWidth, BitVec.toNat_ofNat]
      omega
    rw [e']
    unfold IntOp.shli
    rw [if_pos (by decide)]
    rfl
  rw [e, Conv.ofBits_f32_field, BitVec.toNat_ofNat, Nat.mod_eq_of_lt hn]

/-- A step of the search, at a token. -/
theorem stepV_apply (f : FVec Ideal S1x256 .f32) (e : IVec S1x256 32) (i : S1x256.Idx) {n b : ℕ} (he : e i = BitVec.ofNat 32 n) (hb : n + b < 256) :
    stepV (F := Ideal) f e (BitVec.ofNat 32 b) i = BitVec.ofNat 32 (Conv.step (f i) n b) := by
  have hadd : IntOp.addi (e i) (BitVec.ofNat 32 b) = BitVec.ofNat 32 (n + b) := by
    rw [he]; exact (BitVec.ofNat_add ..).symm
  show (if Ideal.cmp .oge (f i) (Ideal.ofBits .f32 (IntOp.shli .vector (IntOp.addi (e i) (BitVec.ofNat 32 b)) 23#32)) = 1#1 then IntOp.addi (e i) (BitVec.ofNat 32 b) else e i) = _
  rw [hadd, ofBits_pw hb, he]
  unfold Conv.step Ideal.cmp
  by_cases h : Conv.pw (n + b) ≤ f i <;> simp [h]

/-- A step adds no more than its amount. -/
theorem step_le (f : EReal) (n b : ℕ) : Conv.step f n b ≤ n + b := by
  unfold Conv.step; split <;> omega

/-- The search, at a token. -/
theorem searchV_apply (f : FVec Ideal S1x256 .f32) (i : S1x256.Idx) : searchV (F := Ideal) f i = BitVec.ofNat 32 (Conv.search (f i)) := by
  have b1 := step_le (f i) 0 128
  have b2 := step_le (f i) (Conv.step (f i) 0 128) 64
  have b3 := step_le (f i) (Conv.step (f i) (Conv.step (f i) 0 128) 64) 32
  have b4 := step_le (f i) (Conv.step (f i) (Conv.step (f i) (Conv.step (f i) 0 128) 64) 32) 16
  have b5 := step_le (f i) (Conv.step (f i) (Conv.step (f i) (Conv.step (f i) (Conv.step (f i) 0 128) 64) 32) 16) 8
  have b6 := step_le (f i) (Conv.step (f i) (Conv.step (f i) (Conv.step (f i) (Conv.step (f i) (Conv.step (f i) 0 128) 64) 32) 16) 8) 4
  have b7 := step_le (f i) (Conv.step (f i) (Conv.step (f i) (Conv.step (f i) (Conv.step (f i) (Conv.step (f i) (Conv.step (f i) 0 128) 64) 32) 16) 8) 4) 2
  unfold searchV Conv.search
  exact stepV_apply f _ i (stepV_apply f _ i (stepV_apply f _ i (stepV_apply f _ i (stepV_apply f _ i (stepV_apply f _ i (stepV_apply f _ i
    (stepV_apply f _ i rfl (by omega)) (by omega)) (by omega)) (by omega)) (by omega)) (by omega)) (by omega)) (by omega)

/-- The scale's exponent plus the bias is its field, and the bias less it the mirrored field. -/
theorem expo_words : ∀ n : Fin 256,
    (∀ e : BitVec 32, e = (if IntOp.cmpi .eq (IntOp.minsi (BitVec.ofNat 32 n.val) 246#32) 0#32 = 1#1 then 0#32
        else IntOp.subi (IntOp.minsi (BitVec.ofNat 32 n.val) 246#32) 126#32) →
      IntOp.addi e 127#32 = BitVec.ofNat 32 (if min n.val 246 = 0 then 127 else min n.val 246 + 1)
      ∧ IntOp.subi 127#32 e = BitVec.ofNat 32 (254 - if min n.val 246 = 0 then 127 else min n.val 246 + 1)) := by
  simp only [forall_eq]
  decide +kernel

/-- The field the search finds is a byte. -/
theorem search_lt (f : EReal) : Conv.search f < 256 := by
  have h := (Conv.kept_search f).1
  omega

/-- The words of the scale's exponent, at a token whose search's argument is `f`. -/
theorem expoV_apply (e : IVec S1x256 32) (i : S1x256.Idx) (f : EReal) (he : e i = BitVec.ofNat 32 (Conv.search f)) :
    IntOp.addi (expoV e i) 127#32 = BitVec.ofNat 32 (Conv.scaleField f)
      ∧ IntOp.subi 127#32 (expoV e i) = BitVec.ofNat 32 (254 - Conv.scaleField f) := by
  unfold Conv.scaleField
  have hn := search_lt f
  generalize Conv.search f = n at he hn
  have h : expoV e i = if IntOp.cmpi .eq (IntOp.minsi (e i) 246#32) 0#32 = 1#1 then 0#32 else IntOp.subi (IntOp.minsi (e i) 246#32) 126#32 := rfl
  rw [he] at h
  exact expo_words ⟨n, hn⟩ _ h

/-- The scales of a pair of tiles, at a token whose search's argument is `f`. -/
theorem scaleV_apply (e : IVec S1x256 32) (i : S1x256.Idx) (f : EReal) (he : e i = BitVec.ofNat 32 (Conv.search f)) :
    scaleV (F := Ideal) e i = Conv.scaleOf f := by
  show Ideal.ofBits .f32 (IntOp.shli .vector (IntOp.addi (expoV e i) 127#32) 23#32) = _
  have hb := Conv.scaleField_le f
  rw [(expoV_apply e i f he).1, ofBits_pw (by omega)]
  exact Conv.pw_scaleField f

/-- The reciprocal of the scale, at a token whose search's argument is `f`. -/
theorem invV_apply (e : IVec S1x256 32) (i : S1x256.Idx) (f : EReal) (he : e i = BitVec.ofNat 32 (Conv.search f)) :
    bitcastToFloat (F := Ideal) .f32 (shli (subi (broadcast S1x256 127#32) (expoV e)) (broadcast S1x256 23#32)) i = Conv.pw (254 - Conv.scaleField f) := by
  show Ideal.ofBits .f32 (IntOp.shli .vector (IntOp.subi 127#32 (expoV e i)) 23#32) = _
  rw [(expoV_apply e i f he).2, ofBits_pw (by omega)]

/-- The quantised block of a pair of tiles, at a token whose search's argument is `f`. -/
theorem codesV_apply (y : FVec Ideal S96x256 .f32) (e : IVec S1x256 32) (c : Fin 96) (m : Fin 256) (f : EReal)
    (he : e (ix2 0 m) = BitVec.ofNat 32 (Conv.search f)) :
    codesV (F := Ideal) y e (ix3 0 c m) = Conv.quant (y (ix2 c m)) (Conv.scaleOf f) := by
  have h := invV_apply e (ix2 0 m) f he
  unfold codesV Conv.quant
  rw [← Conv.mul_mirror_scaleOf, ← h]
  generalize bitcastToFloat (F := Ideal) .f32 (shli (subi (broadcast S1x256 127#32) (expoV e)) (broadcast S1x256 23#32)) = v
  pointwise

section Out
variable (x0 : Vec Ideal S8x424x128 .i32) (x1 : Vec Ideal S1x64x1024 .fp8e4m3) (x2 : Vec Ideal S96x1728 .fp8e4m3)
  (x3 x4 : Vec Ideal S96x1 .f32) (x5 : Vec Ideal S1x96x1024 .bf16)

/-- The scale of token `j` of tile `g`. -/
def tokenScale (g : Fin 8) (j : Fin 128) : EReal := Conv.scaleOf (Conv.frac (tokenLayer x0 x1 x2 x3 x4 x5 g j))

/-- The scales of a pair of tiles, at a token of one of them. -/
theorem scaleP_apply (g g' : Fin 8) (p : Fin 4) (hp : ∀ s : Fin 2, (pick s g g').val = 2 * p.val + s.val) (s : Fin 2) (j : Fin 128) :
    scaleP (F := Ideal) x0 x1 x2 x3 x4 x5 g g' p (ix2 0 (lane s j)) = tokenScale x0 x1 x2 x3 x4 x5 (pick s g g') j := by
  unfold scaleP tokenScale
  refine scaleV_apply _ _ _ ?_
  rw [searchV_apply, fracV_apply]
  simp only [layerV_apply x0 x1 x2 x3 x4 x5 g g' p hp]

/-- The codes of a pair of tiles, at a token of one of them. -/
theorem codesP_apply (g g' : Fin 8) (p : Fin 4) (hp : ∀ s : Fin 2, (pick s g g').val = 2 * p.val + s.val) (c : Fin 96) (s : Fin 2) (j : Fin 128) :
    codesP (F := Ideal) x0 x1 x2 x3 x4 x5 g g' p (ix3 0 c (lane s j))
      = Conv.quant (tokenLayer x0 x1 x2 x3 x4 x5 (pick s g g') j c) (tokenScale x0 x1 x2 x3 x4 x5 (pick s g g') j) := by
  unfold codesP tokenScale
  rw [← layerV_apply x0 x1 x2 x3 x4 x5 g g' p hp]
  refine codesV_apply _ _ _ _ _ ?_
  rw [searchV_apply, fracV_apply]
  simp only [layerV_apply x0 x1 x2 x3 x4 x5 g g' p hp]

end Out

end Cert.KernelIdeal.Gen
-- ==== Proof.RefValue.lean ====
/-
  The reference's body over the extended reals, read at one token: its two outputs are `Conv.quant` and `Conv.scaleOf` of
  that token's column of gathered words, own codes, weights, scales, bias and skip.
-/
module

public import proofs.«01_k».proof.Proof.BlockValue
public import proofs.«01_k».proof.Proof.Gen.ReferenceIdeal.Frame

@[expose] public section

set_option maxRecDepth 16384

noncomputable section

namespace Cert.ReferenceIdeal.Gen

open Idealize.ShloMosaic
open scoped BigOperators

/-! ## The 1728 codes and their scales -/

/-- The gathered words as codes. -/
def codesW (v0 : Vec Ideal S1920x416x128 .i32) : FVec Ideal S1920x1664x128 .fp8e4m3 :=
  bitcastToFloat .fp8e4m3 (bitcast S1920x1664x128 8 (shapeCast S1920x416x128 v0 shapeCasts_S1920x416x128_S1920x416x128) bitcasts_S1920x416x128_w32_S1920x1664x128_w8)

/-- A gathered code is a byte of its word. -/
theorem codesW_apply (v0 : Vec Ideal S1920x416x128 .i32) (T : Fin 1920) (q : Fin 1664) (j : Fin 128) :
    codesW v0 (ix3 T q j) = Ideal.ofBits .fp8e4m3 (Conv.byteOf (v0 (ix3 T (⟨q.val / 4, by omega⟩ : Fin 416) j)) (q.val % 4)) := by
  unfold codesW
  show Ideal.ofBits .fp8e4m3 (bitcast S1920x1664x128 8 _ _ (ix3 T q j)) = _
  rw [Conv.bitcast_narrow _ _ (ix3 T q j) (ix3 T (⟨q.val / 4, by omega⟩ : Fin 416) j) 4 rfl
    (by intro a ha; match a with
      | ⟨0, _⟩ => exact absurd (show (0 : ℕ) + 2 = 3 from ha) (by decide)
      | ⟨1, _⟩ => rfl
      | ⟨2, _⟩ => exact absurd (show (2 : ℕ) + 2 = 3 from ha) (by decide))
    (by intro a ha; match a with
      | ⟨0, _⟩ => rfl
      | ⟨1, _⟩ => exact absurd rfl ha
      | ⟨2, _⟩ => rfl)]
  have h : shapeCast S1920x416x128 v0 shapeCasts_S1920x416x128_S1920x416x128 (ix3 T (⟨q.val / 4, by omega⟩ : Fin 416) j) = v0 (ix3 T (⟨q.val / 4, by omega⟩ : Fin 416) j) := by
    pointwise
  rw [h]
  rfl

/-- All codes, the centre tap's in their place. -/
def codesR (v0 : Vec Ideal S1920x416x128 .i32) (v4 : Vec Ideal S1920x64x128 .fp8e4m3) : FVec Ideal S1920x1728x128 .fp8e4m3 :=
  concatenate S1920x1728x128 1 [⟨S1920x832x128, extractStridedSlice S1920x832x128 ![0, 0, 0] (codesW v0) slices_S1920x1664x128_o0_0_0_S1920x832x128⟩,
    ⟨S1920x64x128, shapeCast S1920x64x128 v4 shapeCasts_S1920x64x128_S1920x64x128⟩,
    ⟨S1920x832x128, extractStridedSlice S1920x832x128 ![0, 832, 0] (codesW v0) slices_S1920x1664x128_o0_832_0_S1920x832x128⟩]
    concatenates_S1920x832x128_S1920x64x128_S1920x832x128_S1920x1728x128_d1

/-- A code among all. -/
theorem codesR_apply (v0 : Vec Ideal S1920x416x128 .i32) (v4 : Vec Ideal S1920x64x128 .fp8e4m3) (T : Fin 1920) (q : Fin 1728) (j : Fin 128) :
    codesR v0 v4 (ix3 T q j) = if q.val / 64 = 13 then v4 (ix3 T (⟨q.val % 64, by omega⟩ : Fin 64) j)
      else Ideal.ofBits .fp8e4m3 (Conv.byteOf (v0 (ix3 T (⟨(if q.val / 64 < 13 then q.val else q.val - 64) / 4, by split <;> omega⟩ : Fin 416) j)) (q.val % 4)) := by
  unfold codesR
  generalize hW : codesW v0 = W
  have hw : ∀ q' : Fin 1664, W (ix3 T q' j) = _ := fun q' => hW ▸ codesW_apply v0 T q' j
  pointwise
  have hq := q.isLt
  split
  · rename_i h
    have h : q.val < 832 := h
    have h13 : ¬ q.val / 64 = 13 := by omega
    have hlt : q.val / 64 < 13 := by omega
    refine (hw _).trans ?_
    simp only [if_neg h13, if_pos hlt]
  split
  · rename_i h h'
    have h : ¬ q.val < 832 := h
    have h' : q.val - 832 < 64 := h'
    have h13 : q.val / 64 = 13 := by omega
    simp only [if_pos h13]
    exact congrArg (fun d => v4 (ix3 T d j)) (Fin.ext (by show q.val - 832 = q.val % 64; omega))
  · rename_i h h'
    have h : ¬ q.val < 832 := h
    have h' : ¬ q.val - 832 < 64 := h'
    have h13 : ¬ q.val / 64 = 13 := by omega
    have hlt : ¬ q.val / 64 < 13 := by omega
    refine (hw _).trans ?_
    have e : 832 + (q.val - 832 - 64) = q.val - 64 := by omega
    have e' : (q.val - 64) % 4 = q.val % 4 := by omega
    simp only [if_neg h13, if_neg hlt, e, e']

/-- A tap's exponent byte from its word. -/
def expsR (v8 : Vec Ideal S1920x7x128 .i32) : IVec S1920x7x4x128 32 :=
  andi (shrui (broadcastTo S1920x7x4x128 (shapeCast S1920x7x1x128 (shapeCast S1920x7x1x128 (shapeCast S1920x7x128 v8 shapeCasts_S1920x7x128_S1920x7x128) shapeCasts_S1920x7x128_S1920x7x1x128) shapeCasts_S1920x7x1x128_S1920x7x1x128) broadcasts_S1920x7x1x128_S1920x7x4x128)
    (muli (broadcast S1920x7x4x128 8#32) (iota .tc S1920x7x4x128 32 [2] iota_S1920x7x4x128_d2_w32))) (broadcast S1920x7x4x128 255#32)

/-- A tap's exponent is its byte of the word that holds it. -/
theorem expsR_apply (v8 : Vec Ideal S1920x7x128 .i32) (T : Fin 1920) (k : Fin 7) (i : Fin 4) (j : Fin 128) :
    expsR v8 (ix4 T k i j) = (Conv.byteOf (v8 (ix3 T k j)) i.val).setWidth 32 := by
  rw [← Cert.KernelIdeal.Gen.byte_mask .vector _ i.isLt]
  unfold expsR
  pointwise
  have e : IntOp.muli (8#32) (BitVec.ofNat 32 i.val) = BitVec.ofNat 32 (8 * i.val) := by
    show (8#32 : BitVec 32) * BitVec.ofNat 32 i.val = _
    exact (BitVec.ofNat_mul ..).symm
  rw [e]
  rfl

/-- Every code's scale. -/
def scalesR (v8 : Vec Ideal S1920x7x128 .i32) : FVec Ideal S1920x1728x128 .f32 :=
  shapeCast S1920x1728x128 (broadcastTo S1920x27x64x128 (shapeCast S1920x27x1x128 (shapeCast S1920x27x1x128
    (bitcastToFloat (F := Ideal) .f32 (shli (extractStridedSlice S1920x27x128 ![0, 0, 0] (shapeCast S1920x28x128 (expsR v8) shapeCasts_S1920x7x4x128_S1920x28x128) slices_S1920x28x128_o0_0_0_S1920x27x128) (broadcast S1920x27x128 23#32)))
    shapeCasts_S1920x27x128_S1920x27x1x128) shapeCasts_S1920x27x1x128_S1920x27x1x128) broadcasts_S1920x27x1x128_S1920x27x64x128) shapeCasts_S1920x27x64x128_S1920x1728x128

/-- A code's scale is the power of two with its tap's exponent byte as field. -/
theorem scalesR_apply (v8 : Vec Ideal S1920x7x128 .i32) (T : Fin 1920) (q : Fin 1728) (j : Fin 128) :
    scalesR v8 (ix3 T q j) = Conv.pw (Conv.byteOf (v8 (ix3 T (⟨q.val / 64 / 4, by omega⟩ : Fin 7) j)) (q.val / 64 % 4)).toNat := by
  have he := expsR_apply v8 T (⟨q.val / 64 / 4, by omega⟩ : Fin 7) (⟨q.val / 64 % 4, by omega⟩ : Fin 4) j
  unfold scalesR
  generalize expsR v8 = E at he
  pointwise
  rw [he]
  have hb := (Conv.byteOf (v8 (ix3 T (⟨q.val / 64 / 4, by omega⟩ : Fin 7) j)) (q.val / 64 % 4)).isLt
  rw [← Cert.KernelIdeal.Gen.ofBits_pw hb]
  congr 2
  apply BitVec.eq_of_toNat_eq
  simp only [BitVec.toNat_setWidth, BitVec.toNat_ofNat]

/-- The convolution before its scale. -/
def convR (v0 : Vec Ideal S1920x416x128 .i32) (v4 : Vec Ideal S1920x64x128 .fp8e4m3) (v8 : Vec Ideal S1920x7x128 .i32) (v32 : Vec Ideal S1728x96 .fp8e4m3) : FVec Ideal S245760x96 .f32 :=
  matmul dot_S245760x1728_S1728x96_S245760x96_1_0_0_1_n_n none
    (shapeCast S245760x1728 (transpose S1920x128x1728 [0, 2, 1] (mulf (extf .bf16 (codesR v0 v4) bitsLt_fp8e4m3_bf16) (truncf .bf16 (scalesR v8) bitsLt_bf16_f32)) transposes_S1920x1728x128_p0_2_1_S1920x128x1728) shapeCasts_S1920x128x1728_S245760x1728)
    (extf .bf16 (shapeCast S1728x96 v32 shapeCasts_S1728x96_S1728x96) bitsLt_fp8e4m3_bf16) (constant S245760x96 .f32 0x00000000#32)

/-- The convolution before its scale is the sum over the 1728 codes, each times its scale and its weight. -/
theorem convR_sum (v0 : Vec Ideal S1920x416x128 .i32) (v4 : Vec Ideal S1920x64x128 .fp8e4m3) (v8 : Vec Ideal S1920x7x128 .i32) (v32 : Vec Ideal S1728x96 .fp8e4m3)
    (R : Fin 245760) (c : Fin 96) : convR v0 v4 v8 v32 (ix2 R c)
      = ∑ q : Fin 1728, codesR v0 v4 (ix3 (⟨R.val / 128, by omega⟩ : Fin 1920) q (⟨R.val % 128, by omega⟩ : Fin 128))
          * scalesR v8 (ix3 (⟨R.val / 128, by omega⟩ : Fin 1920) q (⟨R.val % 128, by omega⟩ : Fin 128)) * v32 (ix2 q c) := by
  unfold convR
  generalize codesR v0 v4 = C
  generalize scalesR v8 = S
  pointwise

/-- The body's first value is the convolution times the weights' scale. -/
theorem pay1_eq (v0 : Vec Ideal S1920x416x128 .i32) (v4 : Vec Ideal S1920x64x128 .fp8e4m3) (v8 : Vec Ideal S1920x7x128 .i32) (v32 : Vec Ideal S1728x96 .fp8e4m3) (v36 : Vec Ideal S1x96 .f32) :
    k0_pay1 v0 v4 v8 v32 v36 = mulf (convR v0 v4 v8 v32) (broadcastTo S245760x96 (shapeCast S1x96 v36 shapeCasts_S1x96_S1x96) broadcasts_S1x96_S245760x96) := rfl

/-- A token's column of gathered words. -/
def colR (v0 : Vec Ideal S1920x416x128 .i32) (v8 : Vec Ideal S1920x7x128 .i32) (A : Fin 424 → BitVec 32) (T : Fin 1920) (j : Fin 128) : Prop :=
  (∀ r : Fin 416, v0 (ix3 T r j) = A ⟨r.val, by omega⟩) ∧ ∀ r : Fin 7, v8 (ix3 T r j) = A ⟨416 + r.val, by omega⟩

/-- The convolution before its scale, at a token and a channel. -/
theorem convR_apply (v0 : Vec Ideal S1920x416x128 .i32) (v4 : Vec Ideal S1920x64x128 .fp8e4m3) (v8 : Vec Ideal S1920x7x128 .i32) (v32 : Vec Ideal S1728x96 .fp8e4m3)
    (A : Fin 424 → BitVec 32) (R : Fin 245760) (c : Fin 96)
    (hA : colR v0 v8 A (⟨R.val / 128, by omega⟩ : Fin 1920) (⟨R.val % 128, by omega⟩ : Fin 128)) :
    convR v0 v4 v8 v32 (ix2 R c)
      = Conv.acc A (fun d => v4 (ix3 (⟨R.val / 128, by omega⟩ : Fin 1920) d (⟨R.val % 128, by omega⟩ : Fin 128))) (fun q => v32 (ix2 q c)) := by
  obtain ⟨h0, h8⟩ := hA
  rw [convR_sum]
  unfold Conv.acc
  rw [Finset.sum_range]
  refine Finset.sum_congr rfl fun q _ => ?_
  have hq := q.isLt
  rw [codesR_apply, scalesR_apply, h0, h8]
  unfold Conv.code Conv.tapScale
  rw [Conv.at'_eq _ q.val hq, Conv.at'_eq _ (q.val % 64) (by omega), Conv.at'_eq _ (416 + q.val / 64 / 4) (by omega),
    Conv.at'_eq _ ((if q.val / 64 < 13 then q.val else q.val - 64) / 4) (by split <;> omega)]

/-! ## The quantiser -/

/-- The power of two with field `j + 2`, as the reference computes it. -/
theorem exp2_field (j : Fin 246) : Ideal.exp2 ((((IntOp.subi (BitVec.ofNat 32 j.val) 125#32).toInt : ℝ)) : EReal) = Conv.pw (j.val + 2) := by
  have hj := j.isLt
  have e : (IntOp.subi (BitVec.ofNat 32 j.val) 125#32).toInt = (j.val : ℤ) - 125 := by
    have h : ∀ j : Fin 246, (IntOp.subi (BitVec.ofNat 32 j.val) 125#32).toInt = (j.val : ℤ) - 125 := by decide +kernel
    exact h j
  rw [e, Conv.pw_eq (by omega) (by omega), Ideal.exp2_coe]
  refine congrArg (fun r : ℝ => (r : EReal)) ?_
  refine (Real.rpow_intCast 2 ((j.val : ℤ) - 125)).trans ?_
  congr 1
  omega

/-- The layer's result before quantisation. -/
theorem pay2_apply (v39 : FVec Ideal S245760x96 .f32) (v40 : Vec Ideal S1x96 .f32) (v44 : Vec Ideal S245760x96 .bf16) (R : Fin 245760) (c : Fin 96) :
    k0_pay2 v39 v40 v44 (ix2 R c) = max (v39 (ix2 R c) + v40 (ix2 0 c) + v44 (ix2 R c)) 0 := by
  unfold k0_pay2
  pointwise

end Cert.ReferenceIdeal.Gen
-- ==== Proof.RefQuant.lean ====
/-
  The reference's quantiser: the greatest value of a token over 448, the least power of two above it, and the codes.
-/
module

public import proofs.«01_k».proof.Proof.RefValue

@[expose] public section

set_option maxRecDepth 16384

noncomputable section

namespace Cert.ReferenceIdeal.Gen

open Idealize.ShloMosaic Idealize.ShloMosaic.TcCoe

/-- Every token's greatest value. -/
def maxR (Y : FVec Ideal S245760x96 .f32) : FVec Ideal S245760 .f32 :=
  multiReduction .maximumf [1] S245760 Y 0xFF800000#32 reduces_S245760x96_S245760 (.inl rfl) rfl

/-- A token's greatest value is the maximum over its 96 channels. -/
theorem maxR_apply (Y : FVec Ideal S245760x96 .f32) (R : Fin 245760) :
    maxR Y (ix1 R) = Finset.univ.fold max (Ideal.ofBits .f32 0xFF800000#32) fun c : Fin 96 => Y (ix2 R c) := by
  unfold maxR
  pointwise

/-- Every token's greatest value over 448. -/
def fracOfR (M : FVec Ideal S245760 .f32) : FVec Ideal S245760x1 .f32 :=
  mulf (shapeCast S245760x1 M shapeCasts_S245760_S245760x1) (broadcast S245760x1 (Scalar.ofBits .f32 0x3B124925#32 : Ideal .f32))

/-- It is multiplied by 1/448. -/
theorem fracOfR_apply (M : FVec Ideal S245760 .f32) (R : Fin 245760) : fracOfR M (ix2 R 0) = M (ix1 R) * Ideal.ofBits .f32 0x3B124925#32 := by
  unfold fracOfR
  pointwise

/-- Every token's greatest value over 448. -/
def fracR (Y : FVec Ideal S245760x96 .f32) : FVec Ideal S245760x1 .f32 := fracOfR (maxR Y)

/-- Both together are `Conv.frac` of the token's row. -/
theorem fracR_apply (Y : FVec Ideal S245760x96 .f32) (R : Fin 245760) : fracR Y (ix2 R 0) = Conv.frac fun c => Y (ix2 R c) := by
  unfold fracR Conv.frac
  rw [fracOfR_apply, maxR_apply]

/-- The powers of two a scale is chosen from. -/
def powsR : FVec Ideal S1x246 .f32 :=
  exp2 (sitofp .f32 (subi (iota .tc S1x246 32 [1] iota_S1x246_d1_w32) (broadcast S1x246 125#32)))

/-- Entry `j` is the power of two with exponent field `j + 2`. -/
theorem powsR_apply (j : Fin 246) : powsR (ix2 0 j) = Conv.pw (j.val + 2) := by
  rw [← exp2_field]
  unfold powsR
  pointwise
  rfl

/-- The least of the powers above each token's value. -/
def leastR (P : FVec Ideal S1x246 .f32) (f : FVec Ideal S245760x1 .f32) : FVec Ideal S245760 .f32 :=
  multiReduction .minimumf [1] S245760
    (select (cmpf .ogt (broadcastTo S245760x246 P broadcasts_S1x246_S245760x246) (broadcastTo S245760x246 f broadcasts_S245760x1_S245760x246))
      (broadcastTo S245760x246 (shapeCast S1x246 P shapeCasts_S1x246_S1x246) broadcasts_S1x246_S245760x246)
      (broadcast S245760x246 (Scalar.ofBits .f32 0x7B800000#32 : Ideal .f32)))
    0x7F800000#32 reduces_S245760x246_S245760 (.inl rfl) rfl

/-- The minimum over the powers that exceed the token's value, 2^120 standing in for those that do not. -/
theorem leastR_apply (P : FVec Ideal S1x246 .f32) (f : FVec Ideal S245760x1 .f32) (R : Fin 245760) :
    leastR P f (ix1 R) = Finset.univ.fold min (Ideal.ofBits .f32 0x7F800000#32) fun j : Fin 246 =>
      if f (ix2 R 0) < P (ix2 0 j) then P (ix2 0 j) else Ideal.ofBits .f32 0x7B800000#32 := by
  unfold leastR
  pointwise

/-- Every token's scale. -/
def scaleR (f : FVec Ideal S245760x1 .f32) (l : FVec Ideal S245760 .f32) : FVec Ideal S245760x1 .f32 :=
  select (cmpf .olt f (broadcast S245760x1 (Scalar.ofBits .f32 0x00800000#32 : Ideal .f32)))
    (broadcast S245760x1 (Scalar.ofBits .f32 0x3F800000#32 : Ideal .f32)) (shapeCast S245760x1 l shapeCasts_S245760_S245760x1)

/-- The scale is 1 below the least normal number and the least power elsewhere. -/
theorem scaleR_apply (f : FVec Ideal S245760x1 .f32) (l : FVec Ideal S245760 .f32) (R : Fin 245760) :
    scaleR f l (ix2 R 0) = if f (ix2 R 0) < Ideal.ofBits .f32 0x00800000#32 then 1 else l (ix1 R) := by
  unfold scaleR
  pointwise

/-- The body's scales are `scaleR` of the layer's result. -/
theorem pay3_eq (v39 : FVec Ideal S245760x96 .f32) (v40 : Vec Ideal S1x96 .f32) (v44 : Vec Ideal S245760x96 .bf16) :
    k0_pay3 v39 v40 v44 = scaleR (fracR (k0_pay2 v39 v40 v44)) (leastR powsR (fracR (k0_pay2 v39 v40 v44))) := rfl

/-- A token's scale. -/
theorem pay3_apply (v39 : FVec Ideal S245760x96 .f32) (v40 : Vec Ideal S1x96 .f32) (v44 : Vec Ideal S245760x96 .bf16) (R : Fin 245760) :
    k0_pay3 v39 v40 v44 (ix2 R 0) = Conv.scaleOf (Conv.frac fun c => k0_pay2 v39 v40 v44 (ix2 R c)) := by
  have e1 : Ideal.ofBits .f32 0x00800000#32 = Conv.pw 1 := Conv.ofBits_f32_field 1#8
  have e247 : Ideal.ofBits .f32 0x7B800000#32 = Conv.pw 247 := Conv.ofBits_f32_field 247#8
  have etop : Ideal.ofBits .f32 0x7F800000#32 = ⊤ := (Conv.ofBits_f32_field 255#8).trans rfl
  rw [pay3_eq, scaleR_apply, leastR_apply, fracR_apply, e1, e247, etop]
  simp only [powsR_apply]
  rfl

/-- Every code. -/
def codeR (Y : FVec Ideal S245760x96 .f32) (S : FVec Ideal S245760x1 .f32) : FVec Ideal S245760x96 .fp8e4m3 :=
  truncf .fp8e4m3 (minimumf (broadcast S245760x96 (Scalar.ofBits .f32 0x43E00000#32 : Ideal .f32))
    (maximumf (broadcast S245760x96 (Scalar.ofBits .f32 0xC3E00000#32 : Ideal .f32)) (divf Y (broadcastTo S245760x96 S broadcasts_S245760x1_S245760x96)))) bitsLt_fp8e4m3_f32

/-- A code is `Conv.quant` of its value and its token's scale. -/
theorem codeR_apply (Y : FVec Ideal S245760x96 .f32) (S : FVec Ideal S245760x1 .f32) (R : Fin 245760) (c : Fin 96) :
    codeR Y S (ix2 R c) = Conv.quant (Y (ix2 R c)) (S (ix2 R 0)) := by
  unfold codeR Conv.quant
  pointwise

/-- The body's codes are `codeR` of the layer's result and its scales. -/
theorem pay4_eq (v39 : FVec Ideal S245760x96 .f32) (v40 : Vec Ideal S1x96 .f32) (v44 : Vec Ideal S245760x96 .bf16) :
    k0_pay4 v39 v40 v44 = codeR (k0_pay2 v39 v40 v44) (k0_pay3 v39 v40 v44) := rfl

end Cert.ReferenceIdeal.Gen
-- ==== Proof.Whole.lean ====
/-
  The kernel's outputs over whole arrays: the functions `codesOf` and `scalesOf` of one call's gathered words and the
  transposed arguments, and the block a body leaves at a point as the part of them the point's windows name.
-/
module

public import proofs.«01_k».proof.Proof.BlockValue
public import Idealize.ShloMosaic.Lib.Pipeline.ValueKit

@[expose] public section

set_option maxRecDepth 16384

noncomputable section

namespace Cert.KernelIdeal.Gen

open Idealize.ShloMosaic
open scoped BigOperators

/-- A row of the scales' block, placed in it. -/
theorem row_emb (g : Fin 8) (inb : ∀ a, (![g.val, 0] : Fin 2 → ℕ) a + S1x128.size a ≤ S8x128.size a) (x : S1x128.Idx) :
    (Rect.unit (s := S8x128) ![g.val, 0] S1x128.size inb).emb x 0 = g := by
  apply Fin.ext
  rw [ValueKit.rect_emb_unit_val]
  have h : (x 0).val < 1 := (x 0).isLt
  show g.val + (x 0).val = g.val
  omega

section Out
variable (x0 : Vec Ideal S8x424x128 .i32) (x1 : Vec Ideal S1x64x1024 .fp8e4m3) (x2 : Vec Ideal S96x1728 .fp8e4m3)
  (x3 x4 : Vec Ideal S96x1 .f32) (x5 : Vec Ideal S1x96x1024 .bf16)

/-- The code of channel `c` of token `j` of tile `g`. -/
def tokenCode (g : Fin 8) (j : Fin 128) (c : Fin 96) : EReal :=
  Conv.quant (tokenLayer x0 x1 x2 x3 x4 x5 g j c) (tokenScale x0 x1 x2 x3 x4 x5 g j)

/-- The codes' block as a function of its index. -/
def codesBlock : Vec Ideal S1x96x1024 .fp8e4m3 := fun i =>
  tokenCode x0 x1 x2 x3 x4 x5 ⟨(i 2).val / 128, by have h : (i 2).val < 1024 := (i 2).isLt; omega⟩ ⟨(i 2).val % 128, Nat.mod_lt _ (by decide)⟩ (i 1)

/-- Every lane of a pair's block is a token of one of its tiles. -/
theorem exists_lane (m : Fin 256) : ∃ (s : Fin 2) (j : Fin 128), m = lane s j :=
  ⟨⟨m.val / 128, by omega⟩, ⟨m.val % 128, Nat.mod_lt _ (by decide)⟩, Fin.ext (by show m.val = 128 * (m.val / 128) + m.val % 128; omega)⟩

/-- A pair's codes are the block's. -/
theorem codesP_block (g g' : Fin 8) (p : Fin 4) (hp : ∀ s : Fin 2, (pick s g g').val = 2 * p.val + s.val) (x : S1x96x256.Idx) (i : S1x96x1024.Idx)
    (h1 : (i 1).val = (x 1).val) (h2 : (i 2).val = 256 * p.val + (x 2).val) :
    codesP (F := Ideal) x0 x1 x2 x3 x4 x5 g g' p x = codesBlock x0 x1 x2 x3 x4 x5 i := by
  obtain ⟨a, c, m, rfl⟩ : ∃ (a : Fin 1) (c : Fin 96) (m : Fin 256), x = ix3 a c m := ⟨x 0, x 1, x 2, eq_ix3 x⟩
  obtain ⟨b, c', l, rfl⟩ : ∃ (a : Fin 1) (c : Fin 96) (m : Fin 1024), i = ix3 a c m := ⟨i 0, i 1, i 2, eq_ix3 i⟩
  obtain ⟨s, j, rfl⟩ := exists_lane m
  obtain rfl : a = 0 := Subsingleton.elim _ _
  obtain rfl : c' = c := Fin.ext h1
  rw [codesP_apply x0 x1 x2 x3 x4 x5 g g' p hp]
  show _ = tokenCode x0 x1 x2 x3 x4 x5 ⟨l.val / 128, _⟩ ⟨l.val % 128, _⟩ c'
  have h2' : l.val = 256 * p.val + (128 * s.val + j.val) := h2
  have hj := j.isLt
  have a1 : pick s g g' = ⟨l.val / 128, by omega⟩ := Fin.ext (by rw [hp]; show 2 * p.val + s.val = l.val / 128; omega)
  have a2 : j = ⟨l.val % 128, Nat.mod_lt _ (by decide)⟩ := Fin.ext (by show j.val = l.val % 128; omega)
  rw [← a1, ← a2]
  rfl

/-- The codes' buffer after the body. -/
theorem out0_6_apply (i : S1x96x1024.Idx) : out0_6 (F := Ideal) x0 x1 x2 x3 x4 x5 i = codesBlock x0 x1 x2 x3 x4 x5 i := by
  rw [out0_6_eq]
  refine View.canon_apply_of_pieces (Val := Elt Ideal) (codesBlock x0 x1 x2 x3 x4 x5) _ ?_ i (cover0_6 _ _ _ _ i)
  simp only [List.forall_mem_cons, List.not_mem_nil, false_imp_iff, implies_true, and_true]
  refine ⟨fun x => ?_, fun x => ?_, fun x => ?_, fun x => ?_⟩
  · exact codesP_block x0 x1 x2 x3 x4 x5 6 7 3 (by decide) x _ (by rw [ValueKit.rect_emb_unit_val]; exact Nat.zero_add _) (by rw [ValueKit.rect_emb_unit_val]; rfl)
  · exact codesP_block x0 x1 x2 x3 x4 x5 4 5 2 (by decide) x _ (by rw [ValueKit.rect_emb_unit_val]; exact Nat.zero_add _) (by rw [ValueKit.rect_emb_unit_val]; rfl)
  · exact codesP_block x0 x1 x2 x3 x4 x5 2 3 1 (by decide) x _ (by rw [ValueKit.rect_emb_unit_val]; exact Nat.zero_add _) (by rw [ValueKit.rect_emb_unit_val]; rfl)
  · exact codesP_block x0 x1 x2 x3 x4 x5 0 1 0 (by decide) x _ (by rw [ValueKit.rect_emb_unit_val]; exact Nat.zero_add _) (by rw [ValueKit.rect_emb_unit_val]; rfl)

/-- The scales' block as a function of its index. -/
def scalesBlock : Vec Ideal S8x128 .f32 := fun i => tokenScale x0 x1 x2 x3 x4 x5 (i 0) (i 1)

/-- A tile's row of a pair's scales is the block's, whichever slice of the row it is. -/
theorem scaleP_block (g g' : Fin 8) (p : Fin 4) (hp : ∀ s : Fin 2, (pick s g g').val = 2 * p.val + s.val) (s : Fin 2) {off : Fin 2 → ℕ}
    (h : S1x256.Slices off S1x128) (h0' : off 0 = 0) (h1' : off 1 = 128 * s.val) (x : S1x128.Idx) (i : S8x128.Idx)
    (h0 : i 0 = pick s g g') (h1 : (i 1).val = (x 1).val) :
    extractStridedSlice S1x128 off (scaleP (F := Ideal) x0 x1 x2 x3 x4 x5 g g' p) h x = scalesBlock x0 x1 x2 x3 x4 x5 i := by
  obtain ⟨a, j, rfl⟩ : ∃ (a : Fin 1) (j : Fin 128), x = ix2 a j := ⟨x 0, x 1, eq_ix2 x⟩
  obtain ⟨b, j', rfl⟩ : ∃ (b : Fin 8) (j : Fin 128), i = ix2 b j := ⟨i 0, i 1, eq_ix2 i⟩
  obtain rfl : j' = j := Fin.ext h1
  obtain rfl : b = pick s g g' := h0
  refine Eq.trans ?_ (scaleP_apply x0 x1 x2 x3 x4 x5 g g' p hp s j')
  refine extractStridedSlice_apply off _ h (ix2 a j') (ix2 0 (lane s j')) fun b => ?_
  match b with
  | ⟨0, _⟩ => have ha := a.isLt; show 0 = off 0 + a.val; omega
  | ⟨1, _⟩ => show 128 * s.val + j'.val = off 1 + j'.val; omega

/-- The scales' buffer after the body. -/
theorem out0_7_apply (i : S8x128.Idx) : out0_7 (F := Ideal) x0 x1 x2 x3 x4 x5 i = scalesBlock x0 x1 x2 x3 x4 x5 i := by
  rw [out0_7_eq]
  refine View.canon_apply_of_pieces (Val := Elt Ideal) (scalesBlock x0 x1 x2 x3 x4 x5) _ ?_ i (cover0_7 _ _ _ _ _ _ _ _ i)
  simp only [List.forall_mem_cons, List.not_mem_nil, false_imp_iff, implies_true, and_true]
  refine ⟨fun x => ?_, fun x => ?_, fun x => ?_, fun x => ?_, fun x => ?_, fun x => ?_, fun x => ?_, fun x => ?_⟩
  · exact scaleP_block x0 x1 x2 x3 x4 x5 6 7 3 (by decide) 1 _ rfl rfl x _ (row_emb 7 _ x) (by rw [ValueKit.rect_emb_unit_val]; exact Nat.zero_add _)
  · exact scaleP_block x0 x1 x2 x3 x4 x5 6 7 3 (by decide) 0 _ rfl rfl x _ (row_emb 6 _ x) (by rw [ValueKit.rect_emb_unit_val]; exact Nat.zero_add _)
  · exact scaleP_block x0 x1 x2 x3 x4 x5 4 5 2 (by decide) 1 _ rfl rfl x _ (row_emb 5 _ x) (by rw [ValueKit.rect_emb_unit_val]; exact Nat.zero_add _)
  · exact scaleP_block x0 x1 x2 x3 x4 x5 4 5 2 (by decide) 0 _ rfl rfl x _ (row_emb 4 _ x) (by rw [ValueKit.rect_emb_unit_val]; exact Nat.zero_add _)
  · exact scaleP_block x0 x1 x2 x3 x4 x5 2 3 1 (by decide) 1 _ rfl rfl x _ (row_emb 3 _ x) (by rw [ValueKit.rect_emb_unit_val]; exact Nat.zero_add _)
  · exact scaleP_block x0 x1 x2 x3 x4 x5 2 3 1 (by decide) 0 _ rfl rfl x _ (row_emb 2 _ x) (by rw [ValueKit.rect_emb_unit_val]; exact Nat.zero_add _)
  · exact scaleP_block x0 x1 x2 x3 x4 x5 0 1 0 (by decide) 1 _ rfl rfl x _ (row_emb 1 _ x) (by rw [ValueKit.rect_emb_unit_val]; exact Nat.zero_add _)
  · exact scaleP_block x0 x1 x2 x3 x4 x5 0 1 0 (by decide) 0 _ rfl rfl x _ (row_emb 0 _ x) (by rw [ValueKit.rect_emb_unit_val]; exact Nat.zero_add _)

end Out

/-! ## Whole arrays -/

section Arrays
variable (a : Vec Ideal S320x424x128 .i32) (xt : Vec Ideal S3x64x81920 .fp8e4m3) (wt : Vec Ideal S96x1728 .fp8e4m3)
  (ws b : Vec Ideal S96x1 .f32) (skt : Vec Ideal S3x96x81920 .bf16)

/-- The layer's result at channel `c` of token `l` of scene `n`, whose column is in the gathered half `a`. -/
def layerOf (n : Fin 3) (l : Fin 81920) (c : Fin 96) : EReal :=
  Conv.layer (fun r => a (ix3 (⟨l.val / 128 % 320, Nat.mod_lt _ (by decide)⟩ : Fin 320) r (⟨l.val % 128, Nat.mod_lt _ (by decide)⟩ : Fin 128)))
    (fun d => xt (ix3 n d l)) (fun q => wt (ix2 c q)) (ws (ix2 c 0)) (b (ix2 c 0)) (skt (ix3 n c l))

/-- The token's scale. -/
def scaleAt (n : Fin 3) (l : Fin 81920) : EReal := Conv.scaleOf (Conv.frac (layerOf a xt wt ws b skt n l))

/-- The codes, channel-major. -/
def codesOf : Vec Ideal S3x96x81920 .fp8e4m3 := fun i => Conv.quant (layerOf a xt wt ws b skt (i 0) (i 2) (i 1)) (scaleAt a xt wt ws b skt (i 0) (i 2))

/-- The scales, a row per tile. -/
def scalesOf : Vec Ideal S1920x128 .f32 := fun i =>
  scaleAt a xt wt ws b skt ⟨(i 0).val / 640, by have h : (i 0).val < 1920 := (i 0).isLt; omega⟩
    ⟨(i 0).val % 640 * 128 + (i 1).val, by have h : (i 1).val < 128 := (i 1).isLt; have := Nat.mod_lt (i 0).val (show 640 > 0 by decide); omega⟩

variable {x0 : Vec Ideal S8x424x128 .i32} {x1 : Vec Ideal S1x64x1024 .fp8e4m3} {x2 : Vec Ideal S96x1728 .fp8e4m3}
  {x3 x4 : Vec Ideal S96x1 .f32} {x5 : Vec Ideal S1x96x1024 .bf16} (n : Fin 3) (u : ℕ) (hu : u < 80)
  (h0 : ∀ (g : Fin 8) (r : Fin 424) (j : Fin 128) (q : Fin 320), q.val = (8 * u + g.val) % 320 → x0 (ix3 g r j) = a (ix3 q r j))
  (h1 : ∀ (d : Fin 64) (m : Fin 1024) (l : Fin 81920), l.val = 1024 * u + m.val → x1 (ix3 0 d m) = xt (ix3 n d l))
  (h2 : x2 = wt) (h3 : x3 = ws) (h4 : x4 = b)
  (h5 : ∀ (c : Fin 96) (m : Fin 1024) (l : Fin 81920), l.val = 1024 * u + m.val → x5 (ix3 0 c m) = skt (ix3 n c l))
include hu h0 h1 h2 h3 h4 h5

/-- A token of block `u` of scene `n`. -/
theorem tokenLayer_whole (g : Fin 8) (j : Fin 128) (c : Fin 96) (l : Fin 81920) (hl : l.val = 1024 * u + (128 * g.val + j.val)) :
    tokenLayer x0 x1 x2 x3 x4 x5 g j c = layerOf a xt wt ws b skt n l c := by
  subst h2 h3 h4
  have hj := j.isLt
  have e1 : (⟨l.val / 128 % 320, Nat.mod_lt _ (by decide)⟩ : Fin 320).val = (8 * u + g.val) % 320 := by
    show l.val / 128 % 320 = _
    congr 1
    omega
  have e2 : j = ⟨l.val % 128, Nat.mod_lt _ (by decide)⟩ := Fin.ext (by show j.val = l.val % 128; omega)
  unfold tokenLayer layerOf
  have c0 : col x0 g j = fun r => a (ix3 (⟨l.val / 128 % 320, Nat.mod_lt _ (by decide)⟩ : Fin 320) r (⟨l.val % 128, Nat.mod_lt _ (by decide)⟩ : Fin 128)) := by
    funext r
    unfold col
    rw [h0 g r j _ e1, ← e2]
  have c1 : own x1 g j = fun d => xt (ix3 n d l) := by
    funext d
    exact h1 d _ l hl
  have c5 : x5 (ix3 0 c (⟨128 * g.val + j.val, by omega⟩ : Fin 1024)) = skt (ix3 n c l) := h5 c _ l hl
  rw [c0, c1, c5]
  rfl

/-- Its scale. -/
theorem tokenScale_whole (g : Fin 8) (j : Fin 128) (l : Fin 81920) (hl : l.val = 1024 * u + (128 * g.val + j.val)) :
    tokenScale x0 x1 x2 x3 x4 x5 g j = scaleAt a xt wt ws b skt n l := by
  unfold tokenScale scaleAt
  exact congrArg (fun f => Conv.scaleOf (Conv.frac f)) (funext fun c => tokenLayer_whole a xt wt ws b skt n u hu h0 h1 h2 h3 h4 h5 g j c l hl)

/-- Block `u` of scene `n`: the codes' buffer after the body is that block of `codesOf`. -/
theorem out0_6_whole (y : S1x96x1024.Idx) (i : S3x96x81920.Idx) (i0 : (i 0).val = n.val) (i1 : (i 1).val = (y 1).val)
    (i2 : (i 2).val = 1024 * u + (y 2).val) : out0_6 (F := Ideal) x0 x1 x2 x3 x4 x5 y = codesOf a xt wt ws b skt i := by
  rw [out0_6_apply]
  obtain ⟨z, c, m, rfl⟩ : ∃ (a : Fin 1) (c : Fin 96) (m : Fin 1024), y = ix3 a c m := ⟨y 0, y 1, y 2, eq_ix3 y⟩
  obtain ⟨n', c', l, rfl⟩ : ∃ (a : Fin 3) (c : Fin 96) (m : Fin 81920), i = ix3 a c m := ⟨i 0, i 1, i 2, eq_ix3 i⟩
  obtain rfl : n' = n := Fin.ext i0
  obtain rfl : c' = c := Fin.ext i1
  have hl : l.val = 1024 * u + (128 * (m.val / 128) + m.val % 128) := by
    have h : l.val = 1024 * u + m.val := i2
    omega
  show tokenCode x0 x1 x2 x3 x4 x5 ⟨m.val / 128, by omega⟩ ⟨m.val % 128, _⟩ c' = Conv.quant (layerOf a xt wt ws b skt n' l c') (scaleAt a xt wt ws b skt n' l)
  unfold tokenCode
  rw [tokenLayer_whole a xt wt ws b skt n' u hu h0 h1 h2 h3 h4 h5 _ _ _ l hl, tokenScale_whole a xt wt ws b skt n' u hu h0 h1 h2 h3 h4 h5 _ _ l hl]

/-- Block `u` of scene `n`: the scales' buffer after the body is that block of `scalesOf`. -/
theorem out0_7_whole (y : S8x128.Idx) (i : S1920x128.Idx) (i0 : (i 0).val = 640 * n.val + 8 * u + (y 0).val) (i1 : (i 1).val = (y 1).val) :
    out0_7 (F := Ideal) x0 x1 x2 x3 x4 x5 y = scalesOf a xt wt ws b skt i := by
  rw [out0_7_apply]
  obtain ⟨g, j, rfl⟩ : ∃ (a : Fin 8) (c : Fin 128), y = ix2 a c := ⟨y 0, y 1, eq_ix2 y⟩
  obtain ⟨t, j', rfl⟩ : ∃ (a : Fin 1920) (c : Fin 128), i = ix2 a c := ⟨i 0, i 1, eq_ix2 i⟩
  obtain rfl : j' = j := Fin.ext i1
  have ht : t.val = 640 * n.val + 8 * u + g.val := i0
  have hj := j'.isLt
  show tokenScale x0 x1 x2 x3 x4 x5 g j' = scaleAt a xt wt ws b skt ⟨t.val / 640, _⟩ ⟨t.val % 640 * 128 + j'.val, _⟩
  have en : (⟨t.val / 640, by omega⟩ : Fin 3) = n := Fin.ext (by show t.val / 640 = n.val; omega)
  rw [en]
  exact tokenScale_whole a xt wt ws b skt n u hu h0 h1 h2 h3 h4 h5 g j' _ (by show t.val % 640 * 128 + j'.val = _; omega)

end Arrays

end Cert.KernelIdeal.Gen
-- ==== Proof.RefWhole.lean ====
/-
  What the reference leaves in its two results, at an element: the layer of the token, its scale and its codes.
-/
module

public import proofs.«01_k».proof.Proof.RefQuant
public import proofs.«01_k».proof.Proof.Whole
public import proofs.«01_k».proof.Proof.Gen.ReferenceIdeal.Run
public import Idealize.ShloMosaic.Lib.Pipeline.ValueKit
public import Idealize.ShloMosaic.Lib.Claim

@[expose] public section

set_option maxRecDepth 16384
set_option maxHeartbeats 1000000

noncomputable section

namespace Cert.ReferenceIdeal.Gen

open Idealize.ShloMosaic Idealize.ShloMosaic.TcCoe

/-! ## The body's two outputs -/

section Body
variable (x0 : Vec Ideal S1920x424x128 .i32) (x1 : Vec Ideal S1920x64x128 .fp8e4m3) (x2 : Vec Ideal S1728x96 .fp8e4m3)
  (x3 x4 : Vec Ideal S1x96 .f32) (x5 : Vec Ideal S245760x96 .bf16)

/-- The layer's result of token `R` and channel `c`. -/
def layerR (R : Fin 245760) (c : Fin 96) : EReal :=
  Conv.layer (fun r => x0 (ix3 (⟨R.val / 128, by omega⟩ : Fin 1920) r (⟨R.val % 128, by omega⟩ : Fin 128)))
    (fun d => x1 (ix3 (⟨R.val / 128, by omega⟩ : Fin 1920) d (⟨R.val % 128, by omega⟩ : Fin 128)))
    (fun q => x2 (ix2 q c)) (x3 (ix2 0 c)) (x4 (ix2 0 c)) (x5 (ix2 R c))

/-- The loads of the gathered array hold the token's column. -/
theorem col_loads (R : Fin 245760) : colR (View.ld x0 r0_0) (View.ld x0 r0_2) (fun r => x0 (ix3 (⟨R.val / 128, by omega⟩ : Fin 1920) r (⟨R.val % 128, by omega⟩ : Fin 128)))
    (⟨R.val / 128, by omega⟩ : Fin 1920) (⟨R.val % 128, by omega⟩ : Fin 128) := by
  constructor <;> intro r
  · show x0 _ = x0 _
    congr 1
    idx_ext
  · show x0 _ = x0 _
    congr 1
    idx_ext

/-- The weights' scale on every token. -/
theorem scaled_apply (C : FVec Ideal S245760x96 .f32) (R : Fin 245760) (c : Fin 96) :
    mulf C (broadcastTo S245760x96 (shapeCast S1x96 x3 shapeCasts_S1x96_S1x96) broadcasts_S1x96_S245760x96) (ix2 R c) = C (ix2 R c) * x3 (ix2 0 c) := by
  pointwise

/-- The body's value before quantisation is `layerR` of its windows' blocks. -/
theorem layerR_eq (R : Fin 245760) (c : Fin 96) :
    k0_pay2 (k0_pay5 x0 x1 x2 x3 x4 x5) (View.ld x4 r0_4) (View.ld x5 r0_5) (ix2 R c) = layerR x0 x1 x2 x3 x4 x5 R c := by
  have l1 : View.ld x1 r0_1 = x1 := View.ld_unit_lit _ _ (by decide)
  have l2 : View.ld x2 r0_3 = x2 := View.ld_unit_lit _ _ (by decide)
  have l3 : View.ld x3 r0_4 = x3 := View.ld_unit_lit _ _ (by decide)
  have l4 : View.ld x4 r0_4 = x4 := View.ld_unit_lit _ _ (by decide)
  have l5 : View.ld x5 r0_5 = x5 := View.ld_unit_lit _ _ (by decide)
  unfold k0_pay5
  rw [pay2_apply, pay1_eq, l1, l2, l3, l4, l5, scaled_apply, convR_apply _ _ _ _ _ R c (col_loads x0 R)]
  rfl

/-- The scale's column. -/
theorem out0_7_apply (R : Fin 245760) : out0_7 x0 x1 x2 x3 x4 x5 (ix2 R 0) = Conv.scaleOf (Conv.frac (layerR x0 x1 x2 x3 x4 x5 R)) := by
  unfold out0_7
  rw [View.canon_cons_unit_lit _ _ _ (by decide), pay3_apply]
  congr 2
  funext c
  exact layerR_eq x0 x1 x2 x3 x4 x5 R c

/-- The codes. -/
theorem out0_6_apply (R : Fin 245760) (c : Fin 96) : out0_6 x0 x1 x2 x3 x4 x5 (ix2 R c)
    = Conv.quant (layerR x0 x1 x2 x3 x4 x5 R c) (Conv.scaleOf (Conv.frac (layerR x0 x1 x2 x3 x4 x5 R))) := by
  unfold out0_6
  rw [View.canon_cons_unit_lit _ _ _ (by decide), pay4_eq, codeR_apply, pay3_apply, layerR_eq]
  congr 3
  funext c
  exact layerR_eq x0 x1 x2 x3 x4 x5 R c

end Body

/-! ## The region's arrays -/

variable (m : (ℓ : Loc nD τ sig) → Buf (Elt Ideal) ℓ)

/-- Window 0 is the whole array of the gathered words. -/
theorem blkR_0 (c : Dev nD) (t : Fin cfg0.N) : iblk m c 0 t = V m c main_v0 := by
  have i0 : ∀ t : Fin cfg0.N, win0_0.index t = ![0, 0, 0] := (by decide +kernel : ∀ t : Fin grid0.N, _)
  funext y
  blk_ext [iblk, i0]
/-- Window 1 is the whole array of the tokens' own codes. -/
theorem blkR_1 (c : Dev nD) (t : Fin cfg0.N) : iblk m c 1 t = V m c main_v2 := by
  have i0 : ∀ t : Fin cfg0.N, win0_1.index t = ![0, 0, 0] := (by decide +kernel : ∀ t : Fin grid0.N, _)
  funext y
  blk_ext [iblk, i0]
/-- Window 2 is the whole array of the weights. -/
theorem blkR_2 (c : Dev nD) (t : Fin cfg0.N) : iblk m c 2 t = V m c main_v3 := by
  have i0 : ∀ t : Fin cfg0.N, win0_2.index t = ![0, 0] := (by decide +kernel : ∀ t : Fin grid0.N, _)
  funext y
  blk_ext [iblk, i0]
/-- Window 3 is the whole array of the weights' scales. -/
theorem blkR_3 (c : Dev nD) (t : Fin cfg0.N) : iblk m c 3 t = V m c main_v4 := by
  have i0 : ∀ t : Fin cfg0.N, win0_3.index t = ![0, 0] := (by decide +kernel : ∀ t : Fin grid0.N, _)
  funext y
  blk_ext [iblk, i0]
/-- Window 4 is the whole array of the bias. -/
theorem blkR_4 (c : Dev nD) (t : Fin cfg0.N) : iblk m c 4 t = V m c main_v5 := by
  have i0 : ∀ t : Fin cfg0.N, win0_4.index t = ![0, 0] := (by decide +kernel : ∀ t : Fin grid0.N, _)
  funext y
  blk_ext [iblk, i0]
/-- Window 5 is the whole array of the skip connection. -/
theorem blkR_5 (c : Dev nD) (t : Fin cfg0.N) : iblk m c 5 t = V m c main_v6 := by
  have i0 : ∀ t : Fin cfg0.N, win0_5.index t = ![0, 0] := (by decide +kernel : ∀ t : Fin grid0.N, _)
  funext y
  blk_ext [iblk, i0]

/-- The codes' array. -/
theorem finalR_6 (c : Dev nD) : (dats m 0 c).arrAt 6 cfg0.N
    = out0_6 (V m c main_v0) (V m c main_v2) (V m c main_v3) (V m c main_v4) (V m c main_v5) (V m c main_v6) := by
  have i0 : ∀ t : Fin cfg0.N, win0_6.index t = ![0, 0] := (by decide +kernel : ∀ t : Fin grid0.N, _)
  refine (dats m 0 c).arrAt_eq_of_covers 6 _ (by decide +kernel) fun t hf y => ?_
  blk_simp
  rw [after0_6, blkR_0, blkR_1, blkR_2, blkR_3, blkR_4, blkR_5]
  generalize out0_6 (V m c main_v0) (V m c main_v2) (V m c main_v3) (V m c main_v4) (V m c main_v5) (V m c main_v6) = O
  blk_ext [i0]

/-- The scales' array. -/
theorem finalR_7 (c : Dev nD) : (dats m 0 c).arrAt 7 cfg0.N
    = out0_7 (V m c main_v0) (V m c main_v2) (V m c main_v3) (V m c main_v4) (V m c main_v5) (V m c main_v6) := by
  have i0 : ∀ t : Fin cfg0.N, win0_7.index t = ![0, 0] := (by decide +kernel : ∀ t : Fin grid0.N, _)
  refine (dats m 0 c).arrAt_eq_of_covers 7 _ (by decide +kernel) fun t hf y => ?_
  blk_simp
  rw [after0_7, blkR_0, blkR_1, blkR_2, blkR_3, blkR_4, blkR_5]
  generalize out0_7 (V m c main_v0) (V m c main_v2) (V m c main_v3) (V m c main_v4) (V m c main_v5) (V m c main_v6) = O
  blk_ext [i0]

/-! ## The arrays the region reads, from the arguments -/

/-- The six gathered arrays, one scene's half after another. -/
abbrev allWords (a0 a1 a2 a3 a4 a5 : Vec Ideal S320x424x128 .i32) : Vec Ideal S1920x424x128 .i32 :=
  concatenate S1920x424x128 0 [⟨S320x424x128, a0⟩, ⟨S320x424x128, a1⟩, ⟨S320x424x128, a2⟩, ⟨S320x424x128, a3⟩, ⟨S320x424x128, a4⟩, ⟨S320x424x128, a5⟩]
    concatenates_S320x424x128_S320x424x128_S320x424x128_S320x424x128_S320x424x128_S320x424x128_S1920x424x128_d0
/-- The centre tap's codes by tile, channel-major. -/
abbrev ownTiles (x : Vec Ideal S3x81920x64 .fp8e4m3) : Vec Ideal S1920x64x128 .fp8e4m3 :=
  transpose S1920x64x128 [0, 2, 1] (shapeCast S1920x128x64 x shapeCasts_S3x81920x64_S1920x128x64) transposes_S1920x128x64_S1920x64x128_0_2_1

/-- What the host leaves in the arrays the region reads. -/
theorem entryR (c : Dev nD) :
    V m c main_v0 = allWords (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
    ∧ V m c main_v2 = ownTiles (m ((c : Thread nD τ).loc main_arg6))
    ∧ V m c main_v3 = shapeCast S1728x96 (m ((c : Thread nD τ).loc main_arg7)) shapeCasts_S27x64x96_S1728x96
    ∧ V m c main_v4 = shapeCast S1x96 (m ((c : Thread nD τ).loc main_arg8)) shapeCasts_S96_S1x96
    ∧ V m c main_v5 = shapeCast S1x96 (m ((c : Thread nD τ).loc main_arg9)) shapeCasts_S96_S1x96
    ∧ V m c main_v6 = shapeCast S245760x96 (m ((c : Thread nD τ).loc main_arg10)) shapeCasts_S3x81920x96_S245760x96 := by
  have h : ∀ b, V m c b = StableHlo.after hostOps0 (fun b => m (c, b)) (Proc.devRef .tc b) := fun b => by
    unfold V V0
    simp only [List.flatten_cons, List.flatten_nil, List.append_nil]
  simp only [h]
  refine ⟨?_, ?_, ?_, ?_, ?_, ?_⟩ <;> after_results <;> rfl

end Cert.ReferenceIdeal.Gen
-- ==== Proof.Regions.lean ====
/-
  The later calls' bodies leave the same functions of their blocks as the first call's: what each run of the body at a point
  leaves in the two outputs' buffers is `out0_6` / `out0_7` of that call's input blocks.
-/
module

public import proofs.«01_k».proof.Proof.Gen.KernelIdeal.Frame.Region0
public import proofs.«01_k».proof.Proof.Gen.KernelIdeal.Frame.Region1
public import proofs.«01_k».proof.Proof.Gen.KernelIdeal.Frame.Region2
public import proofs.«01_k».proof.Proof.Gen.KernelIdeal.Frame.Region3
public import proofs.«01_k».proof.Proof.Gen.KernelIdeal.Frame.Region4
public import proofs.«01_k».proof.Proof.Gen.KernelIdeal.Frame.Region5

@[expose] public section

set_option maxRecDepth 16384
set_option maxHeartbeats 4000000

noncomputable section

namespace Cert.KernelIdeal.Gen

open Idealize.ShloMosaic Idealize.ShloMosaic.TcCoe Idealize.ShloMosaic.Tactic

variable {F : FTy → Type} [FloatOps F]
variable (V : (c : Dev nD) → (b : Ref sig .tc) → Buf (Elt F) ((c : Thread nD τ).loc b))

/-- Call 1's outputs after the body at a point. -/
theorem outsAt1_eq (c : Dev nD) (t : Fin cfg1.N) : outsAt1 V c t
    = (out0_6 (iblk1 V c 0 t) (iblk1 V c 1 t) (iblk1 V c 2 t) (iblk1 V c 3 t) (iblk1 V c 4 t) (iblk1 V c 5 t),
       out0_7 (iblk1 V c 0 t) (iblk1 V c 1 t) (iblk1 V c 2 t) (iblk1 V c 3 t) (iblk1 V c 4 t) (iblk1 V c 5 t)) := by
  unfold outsAt1 out1_A_6 out1_A_7
  rw [View.read_writes_eq_canon _ _ _ (cover1_A_6 _ _ _ _ _ _ _ _ _ _ _ _ _ _ _ _ _ _ _ _ _ _ _ _),
    View.read_writes_eq_canon _ _ _ (cover1_A_7 _ _ _ _ _ _ _ _ _ _ _ _ _ _ _ _ _ _ _ _ _ _ _ _)]
  unfold kernelRun1_A
  dsimp only
  sl_unfold_run_names
  simp only [View.readAt_eq_ld, (hs1_0 t).read_unread, (hs1_1 t).read_unread, (hs1_2 t).read_unread, (hs1_3 t).read_unread, (hs1_4 t).read_unread, (hs1_5 t).read_unread]
  rfl

/-- Call 2's outputs after the body at a point. -/
theorem outsAt2_eq (c : Dev nD) (t : Fin cfg2.N) : outsAt2 V c t
    = (out0_6 (iblk2 V c 0 t) (iblk2 V c 1 t) (iblk2 V c 2 t) (iblk2 V c 3 t) (iblk2 V c 4 t) (iblk2 V c 5 t),
       out0_7 (iblk2 V c 0 t) (iblk2 V c 1 t) (iblk2 V c 2 t) (iblk2 V c 3 t) (iblk2 V c 4 t) (iblk2 V c 5 t)) := by
  unfold outsAt2 out2_A_6 out2_A_7
  rw [View.read_writes_eq_canon _ _ _ (cover2_A_6 _ _ _ _ _ _ _ _ _ _ _ _ _ _ _ _ _ _ _ _ _ _ _ _),
    View.read_writes_eq_canon _ _ _ (cover2_A_7 _ _ _ _ _ _ _ _ _ _ _ _ _ _ _ _ _ _ _ _ _ _ _ _)]
  unfold kernelRun2_A
  dsimp only
  sl_unfold_run_names
  simp only [View.readAt_eq_ld, (hs2_0 t).read_unread, (hs2_1 t).read_unread, (hs2_2 t).read_unread, (hs2_3 t).read_unread, (hs2_4 t).read_unread, (hs2_5 t).read_unread]
  rfl

/-- Call 3's outputs after the body at a point. -/
theorem outsAt3_eq (c : Dev nD) (t : Fin cfg3.N) : outsAt3 V c t
    = (out0_6 (iblk3 V c 0 t) (iblk3 V c 1 t) (iblk3 V c 2 t) (iblk3 V c 3 t) (iblk3 V c 4 t) (iblk3 V c 5 t),
       out0_7 (iblk3 V c 0 t) (iblk3 V c 1 t) (iblk3 V c 2 t) (iblk3 V c 3 t) (iblk3 V c 4 t) (iblk3 V c 5 t)) := by
  unfold outsAt3 out3_A_6 out3_A_7
  rw [View.read_writes_eq_canon _ _ _ (cover3_A_6 _ _ _ _ _ _ _ _ _ _ _ _ _ _ _ _ _ _ _ _ _ _ _ _),
    View.read_writes_eq_canon _ _ _ (cover3_A_7 _ _ _ _ _ _ _ _ _ _ _ _ _ _ _ _ _ _ _ _ _ _ _ _)]
  unfold kernelRun3_A
  dsimp only
  sl_unfold_run_names
  simp only [View.readAt_eq_ld, (hs3_0 t).read_unread, (hs3_1 t).read_unread, (hs3_2 t).read_unread, (hs3_3 t).read_unread, (hs3_4 t).read_unread, (hs3_5 t).read_unread]
  rfl

/-- Call 4's outputs after the body at a point. -/
theorem outsAt4_eq (c : Dev nD) (t : Fin cfg4.N) : outsAt4 V c t
    = (out0_6 (iblk4 V c 0 t) (iblk4 V c 1 t) (iblk4 V c 2 t) (iblk4 V c 3 t) (iblk4 V c 4 t) (iblk4 V c 5 t),
       out0_7 (iblk4 V c 0 t) (iblk4 V c 1 t) (iblk4 V c 2 t) (iblk4 V c 3 t) (iblk4 V c 4 t) (iblk4 V c 5 t)) := by
  unfold outsAt4 out4_A_6 out4_A_7
  rw [View.read_writes_eq_canon _ _ _ (cover4_A_6 _ _ _ _ _ _ _ _ _ _ _ _ _ _ _ _ _ _ _ _ _ _ _ _),
    View.read_writes_eq_canon _ _ _ (cover4_A_7 _ _ _ _ _ _ _ _ _ _ _ _ _ _ _ _ _ _ _ _ _ _ _ _)]
  unfold kernelRun4_A
  dsimp only
  sl_unfold_run_names
  simp only [View.readAt_eq_ld, (hs4_0 t).read_unread, (hs4_1 t).read_unread, (hs4_2 t).read_unread, (hs4_3 t).read_unread, (hs4_4 t).read_unread, (hs4_5 t).read_unread]
  rfl

/-- Call 5's outputs after the body at a point. -/
theorem outsAt5_eq (c : Dev nD) (t : Fin cfg5.N) : outsAt5 V c t
    = (out0_6 (iblk5 V c 0 t) (iblk5 V c 1 t) (iblk5 V c 2 t) (iblk5 V c 3 t) (iblk5 V c 4 t) (iblk5 V c 5 t),
       out0_7 (iblk5 V c 0 t) (iblk5 V c 1 t) (iblk5 V c 2 t) (iblk5 V c 3 t) (iblk5 V c 4 t) (iblk5 V c 5 t)) := by
  unfold outsAt5 out5_A_6 out5_A_7
  rw [View.read_writes_eq_canon _ _ _ (cover5_A_6 _ _ _ _ _ _ _ _ _ _ _ _ _ _ _ _ _ _ _ _ _ _ _ _),
    View.read_writes_eq_canon _ _ _ (cover5_A_7 _ _ _ _ _ _ _ _ _ _ _ _ _ _ _ _ _ _ _ _ _ _ _ _)]
  unfold kernelRun5_A
  dsimp only
  sl_unfold_run_names
  simp only [View.readAt_eq_ld, (hs5_0 t).read_unread, (hs5_1 t).read_unread, (hs5_2 t).read_unread, (hs5_3 t).read_unread, (hs5_4 t).read_unread, (hs5_5 t).read_unread]
  rfl

end Cert.KernelIdeal.Gen
-- ==== Proof.Arrays.lean ====
/-
  What each call leaves in the two result arrays: the tokens of its half of its scene hold `codesOf` / `scalesOf` of the
  call's arguments, and every other element is as the call found it.

  The six calls are six pipelines, which differ in the scene and the half of it that their index maps name. For call `n`,
  `idxn_w` is the block of window `w` at step `t`, `blkn_w` what that block holds of the call's operand, and `finaln_6`
  and `finaln_7` the two result arrays after the call, by `out0_6_whole` and `out0_7_whole`, which are stated once.
-/
module

public import proofs.«01_k».proof.Proof.Regions
public import proofs.«01_k».proof.Proof.Whole
public import Idealize.ShloMosaic.Lib.Pipeline.ValueKit

@[expose] public section

set_option maxRecDepth 16384
set_option maxHeartbeats 4000000

noncomputable section

namespace Cert.KernelIdeal.Gen

open Idealize.ShloMosaic Idealize.ShloMosaic.TcCoe

variable (V : (c : Dev nD) → (b : Ref sig .tc) → Buf (Elt Ideal) ((c : Thread nD τ).loc b))

/-! ### Call 0: scene 0, first half -/

/-- The blocks of call 0's windows at step `t`: first that of the gathered words, then those of the others. -/
theorem idx0_0 : ∀ t : Fin cfg0.N, win0_0.index t = ![t.val, 0, 0] := (by decide +kernel : ∀ t : Fin grid0.N, _)
theorem idx0_1 : ∀ t : Fin cfg0.N, win0_1.index t = ![0, 0, 0 + t.val] := (by decide +kernel : ∀ t : Fin grid0.N, _)
theorem idx0_2 : ∀ t : Fin cfg0.N, win0_2.index t = ![0, 0] := (by decide +kernel : ∀ t : Fin grid0.N, _)
theorem idx0_3 : ∀ t : Fin cfg0.N, win0_3.index t = ![0, 0] := (by decide +kernel : ∀ t : Fin grid0.N, _)
theorem idx0_4 : ∀ t : Fin cfg0.N, win0_4.index t = ![0, 0] := (by decide +kernel : ∀ t : Fin grid0.N, _)
theorem idx0_5 : ∀ t : Fin cfg0.N, win0_5.index t = ![0, 0, 0 + t.val] := (by decide +kernel : ∀ t : Fin grid0.N, _)
theorem idx0_6 : ∀ t : Fin cfg0.N, win0_6.index t = ![0, 0, 0 + t.val] := (by decide +kernel : ∀ t : Fin grid0.N, _)
theorem idx0_7 : ∀ t : Fin cfg0.N, win0_7.index t = ![0 + t.val, 0] := (by decide +kernel : ∀ t : Fin grid0.N, _)

/-- Call 0's block of the gathered words. -/
theorem blk0_0 (c : Dev nD) (t : Fin cfg0.N) (g : Fin 8) (r : Fin 424) (j : Fin 128) (q : Fin 320) (hq : q.val = (8 * (0 + t.val) + g.val) % 320) :
    iblk0 V c 0 t (ix3 g r j) = V c main_arg0 (ix3 q r j) := by
  have ht : t.val < 40 := lt_of_lt_of_eq t.isLt N_0
  blk_ext [iblk0, idx0_0]
/-- Call 0's block of the tokens' own codes. -/
theorem blk0_1 (c : Dev nD) (t : Fin cfg0.N) (d : Fin 64) (m : Fin 1024) (l : Fin 81920) (hl : l.val = 1024 * (0 + t.val) + m.val) :
    iblk0 V c 1 t (ix3 0 d m) = V c main_v2 (ix3 0 d l) := by
  blk_ext [iblk0, idx0_1]
/-- Call 0's block of the weights. -/
theorem blk0_2 (c : Dev nD) (t : Fin cfg0.N) : iblk0 V c 2 t = V c main_v1 := by
  funext y
  blk_ext [iblk0, idx0_2]
/-- Call 0's block of the weights' scales. -/
theorem blk0_3 (c : Dev nD) (t : Fin cfg0.N) : iblk0 V c 3 t = V c main_v4 := by
  funext y
  blk_ext [iblk0, idx0_3]
/-- Call 0's block of the bias. -/
theorem blk0_4 (c : Dev nD) (t : Fin cfg0.N) : iblk0 V c 4 t = V c main_v5 := by
  funext y
  blk_ext [iblk0, idx0_4]
/-- Call 0's block of the skip connection. -/
theorem blk0_5 (c : Dev nD) (t : Fin cfg0.N) (d : Fin 96) (m : Fin 1024) (l : Fin 81920) (hl : l.val = 1024 * (0 + t.val) + m.val) :
    iblk0 V c 5 t (ix3 0 d m) = V c main_v3 (ix3 0 d l) := by
  blk_ext [iblk0, idx0_5]

/-- The codes' array after the call: its own tokens written, the rest as it was. -/
theorem final0_6 (c : Dev nD) : (dat0 V c).arrAt 6 cfg0.N
    = fun i : S3x96x81920.Idx => if (i 0).val / 1 = 0 ∧ (i 2).val / 1024 / 40 = 0 then codesOf (V c main_arg0) (V c main_v2) (V c main_v1) (V c main_v4) (V c main_v5) (V c main_v3) i else V c main_v6_0 i := by
  refine (dat0 V c).arrAt_eq_of_coversWhere 6 _ (fun β => β (0 : Fin 3) = 0 ∧ β (2 : Fin 3) / 40 = 0) (by decide +kernel) (fun t hf y => ?_) (fun j => Iff.rfl)
  have ht : t.val < 40 := lt_of_lt_of_eq t.isLt N_0
  blk_simp
  rw [after0_6]
  refine out0_6_whole (V c main_arg0) (V c main_v2) (V c main_v1) (V c main_v4) (V c main_v5) (V c main_v3) 0 (0 + t.val) (by omega) (blk0_0 V c t) (blk0_1 V c t) (blk0_2 V c t) (blk0_3 V c t) (blk0_4 V c t)
    (blk0_5 V c t) _ _ ?_ ?_ ?_ <;> blk_simp [idx0_6] <;> idx_bounds y <;> omega

/-- The scales' array after the call: its own tiles' rows written, the rest as it was. -/
theorem final0_7 (c : Dev nD) : (dat0 V c).arrAt 7 cfg0.N
    = fun i : S1920x128.Idx => if (i 0).val / 8 / 40 = 0 then scalesOf (V c main_arg0) (V c main_v2) (V c main_v1) (V c main_v4) (V c main_v5) (V c main_v3) i else V c main_v6_1 i := by
  refine (dat0 V c).arrAt_eq_of_coversWhere 7 _ (fun β => β (0 : Fin 2) / 40 = 0) (by decide +kernel) (fun t hf y => ?_) (fun j => Iff.rfl)
  have ht : t.val < 40 := lt_of_lt_of_eq t.isLt N_0
  blk_simp
  rw [after0_7]
  refine out0_7_whole (V c main_arg0) (V c main_v2) (V c main_v1) (V c main_v4) (V c main_v5) (V c main_v3) 0 (0 + t.val) (by omega) (blk0_0 V c t) (blk0_1 V c t) (blk0_2 V c t) (blk0_3 V c t) (blk0_4 V c t)
    (blk0_5 V c t) _ _ ?_ ?_ <;> blk_simp [idx0_7] <;> idx_bounds y <;> omega

/-! ### Call 1: scene 0, second half -/

/-- The blocks of call 1's windows at step `t`: first that of the gathered words, then those of the others. -/
theorem idx1_0 : ∀ t : Fin cfg1.N, win1_0.index t = ![t.val, 0, 0] := (by decide +kernel : ∀ t : Fin grid1.N, _)
theorem idx1_1 : ∀ t : Fin cfg1.N, win1_1.index t = ![0, 0, 40 + t.val] := (by decide +kernel : ∀ t : Fin grid1.N, _)
theorem idx1_2 : ∀ t : Fin cfg1.N, win1_2.index t = ![0, 0] := (by decide +kernel : ∀ t : Fin grid1.N, _)
theorem idx1_3 : ∀ t : Fin cfg1.N, win1_3.index t = ![0, 0] := (by decide +kernel : ∀ t : Fin grid1.N, _)
theorem idx1_4 : ∀ t : Fin cfg1.N, win1_4.index t = ![0, 0] := (by decide +kernel : ∀ t : Fin grid1.N, _)
theorem idx1_5 : ∀ t : Fin cfg1.N, win1_5.index t = ![0, 0, 40 + t.val] := (by decide +kernel : ∀ t : Fin grid1.N, _)
theorem idx1_6 : ∀ t : Fin cfg1.N, win1_6.index t = ![0, 0, 40 + t.val] := (by decide +kernel : ∀ t : Fin grid1.N, _)
theorem idx1_7 : ∀ t : Fin cfg1.N, win1_7.index t = ![40 + t.val, 0] := (by decide +kernel : ∀ t : Fin grid1.N, _)

/-- Call 1's block of the gathered words. -/
theorem blk1_0 (c : Dev nD) (t : Fin cfg1.N) (g : Fin 8) (r : Fin 424) (j : Fin 128) (q : Fin 320) (hq : q.val = (8 * (40 + t.val) + g.val) % 320) :
    iblk1 V c 0 t (ix3 g r j) = V c main_arg1 (ix3 q r j) := by
  have ht : t.val < 40 := lt_of_lt_of_eq t.isLt N_1
  blk_ext [iblk1, idx1_0]
/-- Call 1's block of the tokens' own codes. -/
theorem blk1_1 (c : Dev nD) (t : Fin cfg1.N) (d : Fin 64) (m : Fin 1024) (l : Fin 81920) (hl : l.val = 1024 * (40 + t.val) + m.val) :
    iblk1 V c 1 t (ix3 0 d m) = V c main_v2 (ix3 0 d l) := by
  blk_ext [iblk1, idx1_1]
/-- Call 1's block of the weights. -/
theorem blk1_2 (c : Dev nD) (t : Fin cfg1.N) : iblk1 V c 2 t = V c main_v1 := by
  funext y
  blk_ext [iblk1, idx1_2]
/-- Call 1's block of the weights' scales. -/
theorem blk1_3 (c : Dev nD) (t : Fin cfg1.N) : iblk1 V c 3 t = V c main_v7 := by
  funext y
  blk_ext [iblk1, idx1_3]
/-- Call 1's block of the bias. -/
theorem blk1_4 (c : Dev nD) (t : Fin cfg1.N) : iblk1 V c 4 t = V c main_v8 := by
  funext y
  blk_ext [iblk1, idx1_4]
/-- Call 1's block of the skip connection. -/
theorem blk1_5 (c : Dev nD) (t : Fin cfg1.N) (d : Fin 96) (m : Fin 1024) (l : Fin 81920) (hl : l.val = 1024 * (40 + t.val) + m.val) :
    iblk1 V c 5 t (ix3 0 d m) = V c main_v3 (ix3 0 d l) := by
  blk_ext [iblk1, idx1_5]

/-- The codes' array after the call: its own tokens written, the rest as it was. -/
theorem final1_6 (c : Dev nD) : (dat1 V c).arrAt 6 cfg1.N
    = fun i : S3x96x81920.Idx => if (i 0).val / 1 = 0 ∧ (i 2).val / 1024 / 40 = 1 then codesOf (V c main_arg1) (V c main_v2) (V c main_v1) (V c main_v7) (V c main_v8) (V c main_v3) i else V c main_v9_0 i := by
  refine (dat1 V c).arrAt_eq_of_coversWhere 6 _ (fun β => β (0 : Fin 3) = 0 ∧ β (2 : Fin 3) / 40 = 1) (by decide +kernel) (fun t hf y => ?_) (fun j => Iff.rfl)
  have ht : t.val < 40 := lt_of_lt_of_eq t.isLt N_1
  blk_simp
  rw [after1_6, outsAt1_eq]
  refine out0_6_whole (V c main_arg1) (V c main_v2) (V c main_v1) (V c main_v7) (V c main_v8) (V c main_v3) 0 (40 + t.val) (by omega) (blk1_0 V c t) (blk1_1 V c t) (blk1_2 V c t) (blk1_3 V c t) (blk1_4 V c t)
    (blk1_5 V c t) _ _ ?_ ?_ ?_ <;> blk_simp [idx1_6] <;> idx_bounds y <;> omega

/-- The scales' array after the call: its own tiles' rows written, the rest as it was. -/
theorem final1_7 (c : Dev nD) : (dat1 V c).arrAt 7 cfg1.N
    = fun i : S1920x128.Idx => if (i 0).val / 8 / 40 = 1 then scalesOf (V c main_arg1) (V c main_v2) (V c main_v1) (V c main_v7) (V c main_v8) (V c main_v3) i else V c main_v9_1 i := by
  refine (dat1 V c).arrAt_eq_of_coversWhere 7 _ (fun β => β (0 : Fin 2) / 40 = 1) (by decide +kernel) (fun t hf y => ?_) (fun j => Iff.rfl)
  have ht : t.val < 40 := lt_of_lt_of_eq t.isLt N_1
  blk_simp
  rw [after1_7, outsAt1_eq]
  refine out0_7_whole (V c main_arg1) (V c main_v2) (V c main_v1) (V c main_v7) (V c main_v8) (V c main_v3) 0 (40 + t.val) (by omega) (blk1_0 V c t) (blk1_1 V c t) (blk1_2 V c t) (blk1_3 V c t) (blk1_4 V c t)
    (blk1_5 V c t) _ _ ?_ ?_ <;> blk_simp [idx1_7] <;> idx_bounds y <;> omega

/-! ### Call 2: scene 1, first half -/

/-- The blocks of call 2's windows at step `t`: first that of the gathered words, then those of the others. -/
theorem idx2_0 : ∀ t : Fin cfg2.N, win2_0.index t = ![t.val, 0, 0] := (by decide +kernel : ∀ t : Fin grid2.N, _)
theorem idx2_1 : ∀ t : Fin cfg2.N, win2_1.index t = ![1, 0, 0 + t.val] := (by decide +kernel : ∀ t : Fin grid2.N, _)
theorem idx2_2 : ∀ t : Fin cfg2.N, win2_2.index t = ![0, 0] := (by decide +kernel : ∀ t : Fin grid2.N, _)
theorem idx2_3 : ∀ t : Fin cfg2.N, win2_3.index t = ![0, 0] := (by decide +kernel : ∀ t : Fin grid2.N, _)
theorem idx2_4 : ∀ t : Fin cfg2.N, win2_4.index t = ![0, 0] := (by decide +kernel : ∀ t : Fin grid2.N, _)
theorem idx2_5 : ∀ t : Fin cfg2.N, win2_5.index t = ![1, 0, 0 + t.val] := (by decide +kernel : ∀ t : Fin grid2.N, _)
theorem idx2_6 : ∀ t : Fin cfg2.N, win2_6.index t = ![1, 0, 0 + t.val] := (by decide +kernel : ∀ t : Fin grid2.N, _)
theorem idx2_7 : ∀ t : Fin cfg2.N, win2_7.index t = ![80 + t.val, 0] := (by decide +kernel : ∀ t : Fin grid2.N, _)

/-- Call 2's block of the gathered words. -/
theorem blk2_0 (c : Dev nD) (t : Fin cfg2.N) (g : Fin 8) (r : Fin 424) (j : Fin 128) (q : Fin 320) (hq : q.val = (8 * (0 + t.val) + g.val) % 320) :
    iblk2 V c 0 t (ix3 g r j) = V c main_arg2 (ix3 q r j) := by
  have ht : t.val < 40 := lt_of_lt_of_eq t.isLt N_2
  blk_ext [iblk2, idx2_0]
/-- Call 2's block of the tokens' own codes. -/
theorem blk2_1 (c : Dev nD) (t : Fin cfg2.N) (d : Fin 64) (m : Fin 1024) (l : Fin 81920) (hl : l.val = 1024 * (0 + t.val) + m.val) :
    iblk2 V c 1 t (ix3 0 d m) = V c main_v2 (ix3 1 d l) := by
  blk_ext [iblk2, idx2_1]
/-- Call 2's block of the weights. -/
theorem blk2_2 (c : Dev nD) (t : Fin cfg2.N) : iblk2 V c 2 t = V c main_v1 := by
  funext y
  blk_ext [iblk2, idx2_2]
/-- Call 2's block of the weights' scales. -/
theorem blk2_3 (c : Dev nD) (t : Fin cfg2.N) : iblk2 V c 3 t = V c main_v10 := by
  funext y
  blk_ext [iblk2, idx2_3]
/-- Call 2's block of the bias. -/
theorem blk2_4 (c : Dev nD) (t : Fin cfg2.N) : iblk2 V c 4 t = V c main_v11 := by
  funext y
  blk_ext [iblk2, idx2_4]
/-- Call 2's block of the skip connection. -/
theorem blk2_5 (c : Dev nD) (t : Fin cfg2.N) (d : Fin 96) (m : Fin 1024) (l : Fin 81920) (hl : l.val = 1024 * (0 + t.val) + m.val) :
    iblk2 V c 5 t (ix3 0 d m) = V c main_v3 (ix3 1 d l) := by
  blk_ext [iblk2, idx2_5]

/-- The codes' array after the call: its own tokens written, the rest as it was. -/
theorem final2_6 (c : Dev nD) : (dat2 V c).arrAt 6 cfg2.N
    = fun i : S3x96x81920.Idx => if (i 0).val / 1 = 1 ∧ (i 2).val / 1024 / 40 = 0 then codesOf (V c main_arg2) (V c main_v2) (V c main_v1) (V c main_v10) (V c main_v11) (V c main_v3) i else V c main_v12_0 i := by
  refine (dat2 V c).arrAt_eq_of_coversWhere 6 _ (fun β => β (0 : Fin 3) = 1 ∧ β (2 : Fin 3) / 40 = 0) (by decide +kernel) (fun t hf y => ?_) (fun j => Iff.rfl)
  have ht : t.val < 40 := lt_of_lt_of_eq t.isLt N_2
  blk_simp
  rw [after2_6, outsAt2_eq]
  refine out0_6_whole (V c main_arg2) (V c main_v2) (V c main_v1) (V c main_v10) (V c main_v11) (V c main_v3) 1 (0 + t.val) (by omega) (blk2_0 V c t) (blk2_1 V c t) (blk2_2 V c t) (blk2_3 V c t) (blk2_4 V c t)
    (blk2_5 V c t) _ _ ?_ ?_ ?_ <;> blk_simp [idx2_6] <;> idx_bounds y <;> omega

/-- The scales' array after the call: its own tiles' rows written, the rest as it was. -/
theorem final2_7 (c : Dev nD) : (dat2 V c).arrAt 7 cfg2.N
    = fun i : S1920x128.Idx => if (i 0).val / 8 / 40 = 2 then scalesOf (V c main_arg2) (V c main_v2) (V c main_v1) (V c main_v10) (V c main_v11) (V c main_v3) i else V c main_v12_1 i := by
  refine (dat2 V c).arrAt_eq_of_coversWhere 7 _ (fun β => β (0 : Fin 2) / 40 = 2) (by decide +kernel) (fun t hf y => ?_) (fun j => Iff.rfl)
  have ht : t.val < 40 := lt_of_lt_of_eq t.isLt N_2
  blk_simp
  rw [after2_7, outsAt2_eq]
  refine out0_7_whole (V c main_arg2) (V c main_v2) (V c main_v1) (V c main_v10) (V c main_v11) (V c main_v3) 1 (0 + t.val) (by omega) (blk2_0 V c t) (blk2_1 V c t) (blk2_2 V c t) (blk2_3 V c t) (blk2_4 V c t)
    (blk2_5 V c t) _ _ ?_ ?_ <;> blk_simp [idx2_7] <;> idx_bounds y <;> omega

/-! ### Call 3: scene 1, second half -/

/-- The blocks of call 3's windows at step `t`: first that of the gathered words, then those of the others. -/
theorem idx3_0 : ∀ t : Fin cfg3.N, win3_0.index t = ![t.val, 0, 0] := (by decide +kernel : ∀ t : Fin grid3.N, _)
theorem idx3_1 : ∀ t : Fin cfg3.N, win3_1.index t = ![1, 0, 40 + t.val] := (by decide +kernel : ∀ t : Fin grid3.N, _)
theorem idx3_2 : ∀ t : Fin cfg3.N, win3_2.index t = ![0, 0] := (by decide +kernel : ∀ t : Fin grid3.N, _)
theorem idx3_3 : ∀ t : Fin cfg3.N, win3_3.index t = ![0, 0] := (by decide +kernel : ∀ t : Fin grid3.N, _)
theorem idx3_4 : ∀ t : Fin cfg3.N, win3_4.index t = ![0, 0] := (by decide +kernel : ∀ t : Fin grid3.N, _)
theorem idx3_5 : ∀ t : Fin cfg3.N, win3_5.index t = ![1, 0, 40 + t.val] := (by decide +kernel : ∀ t : Fin grid3.N, _)
theorem idx3_6 : ∀ t : Fin cfg3.N, win3_6.index t = ![1, 0, 40 + t.val] := (by decide +kernel : ∀ t : Fin grid3.N, _)
theorem idx3_7 : ∀ t : Fin cfg3.N, win3_7.index t = ![120 + t.val, 0] := (by decide +kernel : ∀ t : Fin grid3.N, _)

/-- Call 3's block of the gathered words. -/
theorem blk3_0 (c : Dev nD) (t : Fin cfg3.N) (g : Fin 8) (r : Fin 424) (j : Fin 128) (q : Fin 320) (hq : q.val = (8 * (40 + t.val) + g.val) % 320) :
    iblk3 V c 0 t (ix3 g r j) = V c main_arg3 (ix3 q r j) := by
  have ht : t.val < 40 := lt_of_lt_of_eq t.isLt N_3
  blk_ext [iblk3, idx3_0]
/-- Call 3's block of the tokens' own codes. -/
theorem blk3_1 (c : Dev nD) (t : Fin cfg3.N) (d : Fin 64) (m : Fin 1024) (l : Fin 81920) (hl : l.val = 1024 * (40 + t.val) + m.val) :
    iblk3 V c 1 t (ix3 0 d m) = V c main_v2 (ix3 1 d l) := by
  blk_ext [iblk3, idx3_1]
/-- Call 3's block of the weights. -/
theorem blk3_2 (c : Dev nD) (t : Fin cfg3.N) : iblk3 V c 2 t = V c main_v1 := by
  funext y
  blk_ext [iblk3, idx3_2]
/-- Call 3's block of the weights' scales. -/
theorem blk3_3 (c : Dev nD) (t : Fin cfg3.N) : iblk3 V c 3 t = V c main_v13 := by
  funext y
  blk_ext [iblk3, idx3_3]
/-- Call 3's block of the bias. -/
theorem blk3_4 (c : Dev nD) (t : Fin cfg3.N) : iblk3 V c 4 t = V c main_v14 := by
  funext y
  blk_ext [iblk3, idx3_4]
/-- Call 3's block of the skip connection. -/
theorem blk3_5 (c : Dev nD) (t : Fin cfg3.N) (d : Fin 96) (m : Fin 1024) (l : Fin 81920) (hl : l.val = 1024 * (40 + t.val) + m.val) :
    iblk3 V c 5 t (ix3 0 d m) = V c main_v3 (ix3 1 d l) := by
  blk_ext [iblk3, idx3_5]

/-- The codes' array after the call: its own tokens written, the rest as it was. -/
theorem final3_6 (c : Dev nD) : (dat3 V c).arrAt 6 cfg3.N
    = fun i : S3x96x81920.Idx => if (i 0).val / 1 = 1 ∧ (i 2).val / 1024 / 40 = 1 then codesOf (V c main_arg3) (V c main_v2) (V c main_v1) (V c main_v13) (V c main_v14) (V c main_v3) i else V c main_v15_0 i := by
  refine (dat3 V c).arrAt_eq_of_coversWhere 6 _ (fun β => β (0 : Fin 3) = 1 ∧ β (2 : Fin 3) / 40 = 1) (by decide +kernel) (fun t hf y => ?_) (fun j => Iff.rfl)
  have ht : t.val < 40 := lt_of_lt_of_eq t.isLt N_3
  blk_simp
  rw [after3_6, outsAt3_eq]
  refine out0_6_whole (V c main_arg3) (V c main_v2) (V c main_v1) (V c main_v13) (V c main_v14) (V c main_v3) 1 (40 + t.val) (by omega) (blk3_0 V c t) (blk3_1 V c t) (blk3_2 V c t) (blk3_3 V c t) (blk3_4 V c t)
    (blk3_5 V c t) _ _ ?_ ?_ ?_ <;> blk_simp [idx3_6] <;> idx_bounds y <;> omega

/-- The scales' array after the call: its own tiles' rows written, the rest as it was. -/
theorem final3_7 (c : Dev nD) : (dat3 V c).arrAt 7 cfg3.N
    = fun i : S1920x128.Idx => if (i 0).val / 8 / 40 = 3 then scalesOf (V c main_arg3) (V c main_v2) (V c main_v1) (V c main_v13) (V c main_v14) (V c main_v3) i else V c main_v15_1 i := by
  refine (dat3 V c).arrAt_eq_of_coversWhere 7 _ (fun β => β (0 : Fin 2) / 40 = 3) (by decide +kernel) (fun t hf y => ?_) (fun j => Iff.rfl)
  have ht : t.val < 40 := lt_of_lt_of_eq t.isLt N_3
  blk_simp
  rw [after3_7, outsAt3_eq]
  refine out0_7_whole (V c main_arg3) (V c main_v2) (V c main_v1) (V c main_v13) (V c main_v14) (V c main_v3) 1 (40 + t.val) (by omega) (blk3_0 V c t) (blk3_1 V c t) (blk3_2 V c t) (blk3_3 V c t) (blk3_4 V c t)
    (blk3_5 V c t) _ _ ?_ ?_ <;> blk_simp [idx3_7] <;> idx_bounds y <;> omega

/-! ### Call 4: scene 2, first half -/

/-- The blocks of call 4's windows at step `t`: first that of the gathered words, then those of the others. -/
theorem idx4_0 : ∀ t : Fin cfg4.N, win4_0.index t = ![t.val, 0, 0] := (by decide +kernel : ∀ t : Fin grid4.N, _)
theorem idx4_1 : ∀ t : Fin cfg4.N, win4_1.index t = ![2, 0, 0 + t.val] := (by decide +kernel : ∀ t : Fin grid4.N, _)
theorem idx4_2 : ∀ t : Fin cfg4.N, win4_2.index t = ![0, 0] := (by decide +kernel : ∀ t : Fin grid4.N, _)
theorem idx4_3 : ∀ t : Fin cfg4.N, win4_3.index t = ![0, 0] := (by decide +kernel : ∀ t : Fin grid4.N, _)
theorem idx4_4 : ∀ t : Fin cfg4.N, win4_4.index t = ![0, 0] := (by decide +kernel : ∀ t : Fin grid4.N, _)
theorem idx4_5 : ∀ t : Fin cfg4.N, win4_5.index t = ![2, 0, 0 + t.val] := (by decide +kernel : ∀ t : Fin grid4.N, _)
theorem idx4_6 : ∀ t : Fin cfg4.N, win4_6.index t = ![2, 0, 0 + t.val] := (by decide +kernel : ∀ t : Fin grid4.N, _)
theorem idx4_7 : ∀ t : Fin cfg4.N, win4_7.index t = ![160 + t.val, 0] := (by decide +kernel : ∀ t : Fin grid4.N, _)

/-- Call 4's block of the gathered words. -/
theorem blk4_0 (c : Dev nD) (t : Fin cfg4.N) (g : Fin 8) (r : Fin 424) (j : Fin 128) (q : Fin 320) (hq : q.val = (8 * (0 + t.val) + g.val) % 320) :
    iblk4 V c 0 t (ix3 g r j) = V c main_arg4 (ix3 q r j) := by
  have ht : t.val < 40 := lt_of_lt_of_eq t.isLt N_4
  blk_ext [iblk4, idx4_0]
/-- Call 4's block of the tokens' own codes. -/
theorem blk4_1 (c : Dev nD) (t : Fin cfg4.N) (d : Fin 64) (m : Fin 1024) (l : Fin 81920) (hl : l.val = 1024 * (0 + t.val) + m.val) :
    iblk4 V c 1 t (ix3 0 d m) = V c main_v2 (ix3 2 d l) := by
  blk_ext [iblk4, idx4_1]
/-- Call 4's block of the weights. -/
theorem blk4_2 (c : Dev nD) (t : Fin cfg4.N) : iblk4 V c 2 t = V c main_v1 := by
  funext y
  blk_ext [iblk4, idx4_2]
/-- Call 4's block of the weights' scales. -/
theorem blk4_3 (c : Dev nD) (t : Fin cfg4.N) : iblk4 V c 3 t = V c main_v16 := by
  funext y
  blk_ext [iblk4, idx4_3]
/-- Call 4's block of the bias. -/
theorem blk4_4 (c : Dev nD) (t : Fin cfg4.N) : iblk4 V c 4 t = V c main_v17 := by
  funext y
  blk_ext [iblk4, idx4_4]
/-- Call 4's block of the skip connection. -/
theorem blk4_5 (c : Dev nD) (t : Fin cfg4.N) (d : Fin 96) (m : Fin 1024) (l : Fin 81920) (hl : l.val = 1024 * (0 + t.val) + m.val) :
    iblk4 V c 5 t (ix3 0 d m) = V c main_v3 (ix3 2 d l) := by
  blk_ext [iblk4, idx4_5]

/-- The codes' array after the call: its own tokens written, the rest as it was. -/
theorem final4_6 (c : Dev nD) : (dat4 V c).arrAt 6 cfg4.N
    = fun i : S3x96x81920.Idx => if (i 0).val / 1 = 2 ∧ (i 2).val / 1024 / 40 = 0 then codesOf (V c main_arg4) (V c main_v2) (V c main_v1) (V c main_v16) (V c main_v17) (V c main_v3) i else V c main_v18_0 i := by
  refine (dat4 V c).arrAt_eq_of_coversWhere 6 _ (fun β => β (0 : Fin 3) = 2 ∧ β (2 : Fin 3) / 40 = 0) (by decide +kernel) (fun t hf y => ?_) (fun j => Iff.rfl)
  have ht : t.val < 40 := lt_of_lt_of_eq t.isLt N_4
  blk_simp
  rw [after4_6, outsAt4_eq]
  refine out0_6_whole (V c main_arg4) (V c main_v2) (V c main_v1) (V c main_v16) (V c main_v17) (V c main_v3) 2 (0 + t.val) (by omega) (blk4_0 V c t) (blk4_1 V c t) (blk4_2 V c t) (blk4_3 V c t) (blk4_4 V c t)
    (blk4_5 V c t) _ _ ?_ ?_ ?_ <;> blk_simp [idx4_6] <;> idx_bounds y <;> omega

/-- The scales' array after the call: its own tiles' rows written, the rest as it was. -/
theorem final4_7 (c : Dev nD) : (dat4 V c).arrAt 7 cfg4.N
    = fun i : S1920x128.Idx => if (i 0).val / 8 / 40 = 4 then scalesOf (V c main_arg4) (V c main_v2) (V c main_v1) (V c main_v16) (V c main_v17) (V c main_v3) i else V c main_v18_1 i := by
  refine (dat4 V c).arrAt_eq_of_coversWhere 7 _ (fun β => β (0 : Fin 2) / 40 = 4) (by decide +kernel) (fun t hf y => ?_) (fun j => Iff.rfl)
  have ht : t.val < 40 := lt_of_lt_of_eq t.isLt N_4
  blk_simp
  rw [after4_7, outsAt4_eq]
  refine out0_7_whole (V c main_arg4) (V c main_v2) (V c main_v1) (V c main_v16) (V c main_v17) (V c main_v3) 2 (0 + t.val) (by omega) (blk4_0 V c t) (blk4_1 V c t) (blk4_2 V c t) (blk4_3 V c t) (blk4_4 V c t)
    (blk4_5 V c t) _ _ ?_ ?_ <;> blk_simp [idx4_7] <;> idx_bounds y <;> omega

/-! ### Call 5: scene 2, second half -/

/-- The blocks of call 5's windows at step `t`: first that of the gathered words, then those of the others. -/
theorem idx5_0 : ∀ t : Fin cfg5.N, win5_0.index t = ![t.val, 0, 0] := (by decide +kernel : ∀ t : Fin grid5.N, _)
theorem idx5_1 : ∀ t : Fin cfg5.N, win5_1.index t = ![2, 0, 40 + t.val] := (by decide +kernel : ∀ t : Fin grid5.N, _)
theorem idx5_2 : ∀ t : Fin cfg5.N, win5_2.index t = ![0, 0] := (by decide +kernel : ∀ t : Fin grid5.N, _)
theorem idx5_3 : ∀ t : Fin cfg5.N, win5_3.index t = ![0, 0] := (by decide +kernel : ∀ t : Fin grid5.N, _)
theorem idx5_4 : ∀ t : Fin cfg5.N, win5_4.index t = ![0, 0] := (by decide +kernel : ∀ t : Fin grid5.N, _)
theorem idx5_5 : ∀ t : Fin cfg5.N, win5_5.index t = ![2, 0, 40 + t.val] := (by decide +kernel : ∀ t : Fin grid5.N, _)
theorem idx5_6 : ∀ t : Fin cfg5.N, win5_6.index t = ![2, 0, 40 + t.val] := (by decide +kernel : ∀ t : Fin grid5.N, _)
theorem idx5_7 : ∀ t : Fin cfg5.N, win5_7.index t = ![200 + t.val, 0] := (by decide +kernel : ∀ t : Fin grid5.N, _)

/-- Call 5's block of the gathered words. -/
theorem blk5_0 (c : Dev nD) (t : Fin cfg5.N) (g : Fin 8) (r : Fin 424) (j : Fin 128) (q : Fin 320) (hq : q.val = (8 * (40 + t.val) + g.val) % 320) :
    iblk5 V c 0 t (ix3 g r j) = V c main_arg5 (ix3 q r j) := by
  have ht : t.val < 40 := lt_of_lt_of_eq t.isLt N_5
  blk_ext [iblk5, idx5_0]
/-- Call 5's block of the tokens' own codes. -/
theorem blk5_1 (c : Dev nD) (t : Fin cfg5.N) (d : Fin 64) (m : Fin 1024) (l : Fin 81920) (hl : l.val = 1024 * (40 + t.val) + m.val) :
    iblk5 V c 1 t (ix3 0 d m) = V c main_v2 (ix3 2 d l) := by
  blk_ext [iblk5, idx5_1]
/-- Call 5's block of the weights. -/
theorem blk5_2 (c : Dev nD) (t : Fin cfg5.N) : iblk5 V c 2 t = V c main_v1 := by
  funext y
  blk_ext [iblk5, idx5_2]
/-- Call 5's block of the weights' scales. -/
theorem blk5_3 (c : Dev nD) (t : Fin cfg5.N) : iblk5 V c 3 t = V c main_v19 := by
  funext y
  blk_ext [iblk5, idx5_3]
/-- Call 5's block of the bias. -/
theorem blk5_4 (c : Dev nD) (t : Fin cfg5.N) : iblk5 V c 4 t = V c main_v20 := by
  funext y
  blk_ext [iblk5, idx5_4]
/-- Call 5's block of the skip connection. -/
theorem blk5_5 (c : Dev nD) (t : Fin cfg5.N) (d : Fin 96) (m : Fin 1024) (l : Fin 81920) (hl : l.val = 1024 * (40 + t.val) + m.val) :
    iblk5 V c 5 t (ix3 0 d m) = V c main_v3 (ix3 2 d l) := by
  blk_ext [iblk5, idx5_5]

/-- The codes' array after the call: its own tokens written, the rest as it was. -/
theorem final5_6 (c : Dev nD) : (dat5 V c).arrAt 6 cfg5.N
    = fun i : S3x96x81920.Idx => if (i 0).val / 1 = 2 ∧ (i 2).val / 1024 / 40 = 1 then codesOf (V c main_arg5) (V c main_v2) (V c main_v1) (V c main_v19) (V c main_v20) (V c main_v3) i else V c main_v21_0 i := by
  refine (dat5 V c).arrAt_eq_of_coversWhere 6 _ (fun β => β (0 : Fin 3) = 2 ∧ β (2 : Fin 3) / 40 = 1) (by decide +kernel) (fun t hf y => ?_) (fun j => Iff.rfl)
  have ht : t.val < 40 := lt_of_lt_of_eq t.isLt N_5
  blk_simp
  rw [after5_6, outsAt5_eq]
  refine out0_6_whole (V c main_arg5) (V c main_v2) (V c main_v1) (V c main_v19) (V c main_v20) (V c main_v3) 2 (40 + t.val) (by omega) (blk5_0 V c t) (blk5_1 V c t) (blk5_2 V c t) (blk5_3 V c t) (blk5_4 V c t)
    (blk5_5 V c t) _ _ ?_ ?_ ?_ <;> blk_simp [idx5_6] <;> idx_bounds y <;> omega

/-- The scales' array after the call: its own tiles' rows written, the rest as it was. -/
theorem final5_7 (c : Dev nD) : (dat5 V c).arrAt 7 cfg5.N
    = fun i : S1920x128.Idx => if (i 0).val / 8 / 40 = 5 then scalesOf (V c main_arg5) (V c main_v2) (V c main_v1) (V c main_v19) (V c main_v20) (V c main_v3) i else V c main_v21_1 i := by
  refine (dat5 V c).arrAt_eq_of_coversWhere 7 _ (fun β => β (0 : Fin 2) / 40 = 5) (by decide +kernel) (fun t hf y => ?_) (fun j => Iff.rfl)
  have ht : t.val < 40 := lt_of_lt_of_eq t.isLt N_5
  blk_simp
  rw [after5_7, outsAt5_eq]
  refine out0_7_whole (V c main_arg5) (V c main_v2) (V c main_v1) (V c main_v19) (V c main_v20) (V c main_v3) 2 (40 + t.val) (by omega) (blk5_0 V c t) (blk5_1 V c t) (blk5_2 V c t) (blk5_3 V c t) (blk5_4 V c t)
    (blk5_5 V c t) _ _ ?_ ?_ <;> blk_simp [idx5_7] <;> idx_bounds y <;> omega

end Cert.KernelIdeal.Gen
-- ==== Proof.Chain.lean ====
/-
  The kernel's run from end to end: what the six calls, each writing its half of a scene over what the calls before left, and
  the host's transposes around them leave in the two results.
-/
module

public import proofs.«01_k».proof.Proof.Arrays
public import proofs.«01_k».proof.Proof.Gen.KernelIdeal.Frame.Fold0
public import Idealize.ShloMosaic.Lib.Claim

@[expose] public section

set_option maxRecDepth 16384
set_option maxHeartbeats 4000000

noncomputable section

namespace Cert.KernelIdeal.Gen

open Idealize.ShloMosaic Idealize.ShloMosaic.TcCoe

variable (m : (ℓ : Loc nD τ sig) → Buf (Elt Ideal) ℓ) (ρ : Dev nD → PrngReg)

/-- The centre tap's codes, channel-major. -/
abbrev xT (c : Dev nD) : Vec Ideal S3x64x81920 .fp8e4m3 :=
  transpose S3x64x81920 [0, 2, 1] (m ((c : Thread nD τ).loc main_arg6)) transposes_S3x81920x64_S3x64x81920_0_2_1
/-- The weights as one row per output channel. -/
abbrev wT (c : Dev nD) : Vec Ideal S96x1728 .fp8e4m3 :=
  transpose S96x1728 [1, 0] (shapeCast S1728x96 (m ((c : Thread nD τ).loc main_arg7)) shapeCasts_S27x64x96_S1728x96) transposes_S1728x96_S96x1728_1_0
/-- The weights' scales as a column. -/
abbrev wsT (c : Dev nD) : Vec Ideal S96x1 .f32 := shapeCast S96x1 (m ((c : Thread nD τ).loc main_arg8)) shapeCasts_S96_S96x1
/-- The bias as a column. -/
abbrev bT (c : Dev nD) : Vec Ideal S96x1 .f32 := shapeCast S96x1 (m ((c : Thread nD τ).loc main_arg9)) shapeCasts_S96_S96x1
/-- The skip connection, channel-major. -/
abbrev skT (c : Dev nD) : Vec Ideal S3x96x81920 .bf16 :=
  transpose S3x96x81920 [0, 2, 1] (m ((c : Thread nD τ).loc main_arg10)) transposes_S3x81920x96_S3x96x81920_0_2_1

/-- What the host's first stretch leaves in the arrays the six calls share. -/
theorem entry_shared (c : Dev nD) : W1 m ρ c (Proc.devRef .tc main_v1) = wT m c ∧ W1 m ρ c (Proc.devRef .tc main_v2) = xT m c ∧ W1 m ρ c (Proc.devRef .tc main_v3) = skT m c := by
  refine ⟨?_, ?_, ?_⟩ <;> after_results <;> rfl

/-- The arrays call 0 reads. -/
theorem entry0 (c : Dev nD) : V1 m ρ c main_arg0 = m ((c : Thread nD τ).loc main_arg0) ∧ V1 m ρ c main_v2 = xT m c ∧ V1 m ρ c main_v1 = wT m c
    ∧ V1 m ρ c main_v4 = wsT m c ∧ V1 m ρ c main_v5 = bT m c ∧ V1 m ρ c main_v3 = skT m c := by
  have wsT : V1 m ρ c main_v4 = wsT m c := by
    show StableHlo.after hostOps0 (W0 m ρ c) (Proc.devRef .tc main_v4) = _
    have h : W0 m ρ c (Proc.devRef .tc main_arg8) = m ((c : Thread nD τ).loc main_arg8) := W0_args m ρ c main_arg8 (by decide)
    generalize W0 m ρ c = U at h
    after_results
    rw [h]
    rfl
  have bT : V1 m ρ c main_v5 = bT m c := by
    show StableHlo.after hostOps0 (W0 m ρ c) (Proc.devRef .tc main_v5) = _
    have h : W0 m ρ c (Proc.devRef .tc main_arg9) = m ((c : Thread nD τ).loc main_arg9) := W0_args m ρ c main_arg9 (by decide)
    generalize W0 m ρ c = U at h
    after_results
    rw [h]
    rfl
  exact ⟨W1_args m ρ c main_arg0 (by decide), (entry_shared m ρ c).2.1, (entry_shared m ρ c).1, wsT, bT, (entry_shared m ρ c).2.2⟩

/-- The codes' and the scales' arrays after call 0. -/
theorem exit0 (c : Dev nD) :
    W2 m ρ c (Proc.devRef .tc main_v6_0) = (fun i : S3x96x81920.Idx => if (i 0).val / 1 = 0 ∧ (i 2).val / 1024 / 40 = 0
      then codesOf (m ((c : Thread nD τ).loc main_arg0)) (xT m c) (wT m c) (wsT m c) (bT m c) (skT m c) i else W1 m ρ c (Proc.devRef .tc main_v6_0) i)
    ∧ W2 m ρ c (Proc.devRef .tc main_v6_1) = (fun i : S1920x128.Idx => if (i 0).val / 8 / 40 = 0
      then scalesOf (m ((c : Thread nD τ).loc main_arg0)) (xT m c) (wT m c) (wsT m c) (bT m c) (skT m c) i else W1 m ρ c (Proc.devRef .tc main_v6_1) i) := by
  obtain ⟨ha, hx, hw, hws, hb, hsk⟩ := entry0 m ρ c
  have h6 := final0_6 (V1 m ρ) c
  have h7 := final0_7 (V1 m ρ) c
  rw [ha, hx, hw, hws, hb, hsk] at h6 h7
  exact ⟨(W2_arr m ρ c 6).trans h6, (W2_arr m ρ c 7).trans h7⟩

/-- Call 1 finds the shared arrays as call 0 did. -/
theorem shared1 (c : Dev nD) (r : Ref sig .tc) (h : r = main_v1 ∨ r = main_v2 ∨ r = main_v3) :
    W3 m ρ c (Proc.devRef .tc r) = W1 m ρ c (Proc.devRef .tc r) := by
  rcases h with rfl | rfl | rfl <;> exact (W3_of m ρ c _ (by decide)).trans (W2_of m ρ c _ (by decide))

/-- The arrays call 1 reads. -/
theorem entry1 (c : Dev nD) : V3 m ρ c main_arg1 = m ((c : Thread nD τ).loc main_arg1) ∧ V3 m ρ c main_v2 = xT m c ∧ V3 m ρ c main_v1 = wT m c
    ∧ V3 m ρ c main_v7 = wsT m c ∧ V3 m ρ c main_v8 = bT m c ∧ V3 m ρ c main_v3 = skT m c := by
  have wsT : V3 m ρ c main_v7 = wsT m c := by
    show StableHlo.after hostOps1 (W2 m ρ c) (Proc.devRef .tc main_v7) = _
    have h : W2 m ρ c (Proc.devRef .tc main_arg8) = m ((c : Thread nD τ).loc main_arg8) := W2_args m ρ c main_arg8 (by decide)
    generalize W2 m ρ c = U at h
    after_results
    rw [h]
    rfl
  have bT : V3 m ρ c main_v8 = bT m c := by
    show StableHlo.after hostOps1 (W2 m ρ c) (Proc.devRef .tc main_v8) = _
    have h : W2 m ρ c (Proc.devRef .tc main_arg9) = m ((c : Thread nD τ).loc main_arg9) := W2_args m ρ c main_arg9 (by decide)
    generalize W2 m ρ c = U at h
    after_results
    rw [h]
    rfl
  exact ⟨W3_args m ρ c main_arg1 (by decide), ((shared1 m ρ c main_v2 (by decide)).trans (entry_shared m ρ c).2.1), ((shared1 m ρ c main_v1 (by decide)).trans (entry_shared m ρ c).1), wsT, bT, ((shared1 m ρ c main_v3 (by decide)).trans (entry_shared m ρ c).2.2)⟩

/-- The codes' and the scales' arrays after call 1. -/
theorem exit1 (c : Dev nD) :
    W4 m ρ c (Proc.devRef .tc main_v9_0) = (fun i : S3x96x81920.Idx => if (i 0).val / 1 = 0 ∧ (i 2).val / 1024 / 40 = 1
      then codesOf (m ((c : Thread nD τ).loc main_arg1)) (xT m c) (wT m c) (wsT m c) (bT m c) (skT m c) i else W3 m ρ c (Proc.devRef .tc main_v9_0) i)
    ∧ W4 m ρ c (Proc.devRef .tc main_v9_1) = (fun i : S1920x128.Idx => if (i 0).val / 8 / 40 = 1
      then scalesOf (m ((c : Thread nD τ).loc main_arg1)) (xT m c) (wT m c) (wsT m c) (bT m c) (skT m c) i else W3 m ρ c (Proc.devRef .tc main_v9_1) i) := by
  obtain ⟨ha, hx, hw, hws, hb, hsk⟩ := entry1 m ρ c
  have h6 := final1_6 (V3 m ρ) c
  have h7 := final1_7 (V3 m ρ) c
  rw [ha, hx, hw, hws, hb, hsk] at h6 h7
  exact ⟨(W4_arr m ρ c 6).trans h6, (W4_arr m ρ c 7).trans h7⟩

/-- Call 1 writes over copies of what call 0 left. -/
theorem over1 (c : Dev nD) : W3 m ρ c (Proc.devRef .tc main_v9_0) = W2 m ρ c (Proc.devRef .tc main_v6_0)
    ∧ W3 m ρ c (Proc.devRef .tc main_v9_1) = W2 m ρ c (Proc.devRef .tc main_v6_1) := by
  show StableHlo.after hostOps1 (W2 m ρ c) (Proc.devRef .tc main_v9_0) = _ ∧ StableHlo.after hostOps1 (W2 m ρ c) (Proc.devRef .tc main_v9_1) = _
  generalize W2 m ρ c = U
  constructor <;> after_results <;> rfl

/-- Call 2 finds the shared arrays as call 1 did. -/
theorem shared2 (c : Dev nD) (r : Ref sig .tc) (h : r = main_v1 ∨ r = main_v2 ∨ r = main_v3) :
    W5 m ρ c (Proc.devRef .tc r) = W3 m ρ c (Proc.devRef .tc r) := by
  rcases h with rfl | rfl | rfl <;> exact (W5_of m ρ c _ (by decide)).trans (W4_of m ρ c _ (by decide))

/-- The arrays call 2 reads. -/
theorem entry2 (c : Dev nD) : V5 m ρ c main_arg2 = m ((c : Thread nD τ).loc main_arg2) ∧ V5 m ρ c main_v2 = xT m c ∧ V5 m ρ c main_v1 = wT m c
    ∧ V5 m ρ c main_v10 = wsT m c ∧ V5 m ρ c main_v11 = bT m c ∧ V5 m ρ c main_v3 = skT m c := by
  have wsT : V5 m ρ c main_v10 = wsT m c := by
    show StableHlo.after hostOps2 (W4 m ρ c) (Proc.devRef .tc main_v10) = _
    have h : W4 m ρ c (Proc.devRef .tc main_arg8) = m ((c : Thread nD τ).loc main_arg8) := W4_args m ρ c main_arg8 (by decide)
    generalize W4 m ρ c = U at h
    after_results
    rw [h]
    rfl
  have bT : V5 m ρ c main_v11 = bT m c := by
    show StableHlo.after hostOps2 (W4 m ρ c) (Proc.devRef .tc main_v11) = _
    have h : W4 m ρ c (Proc.devRef .tc main_arg9) = m ((c : Thread nD τ).loc main_arg9) := W4_args m ρ c main_arg9 (by decide)
    generalize W4 m ρ c = U at h
    after_results
    rw [h]
    rfl
  exact ⟨W5_args m ρ c main_arg2 (by decide), ((shared2 m ρ c main_v2 (by decide)).trans ((shared1 m ρ c main_v2 (by decide)).trans (entry_shared m ρ c).2.1)), ((shared2 m ρ c main_v1 (by decide)).trans ((shared1 m ρ c main_v1 (by decide)).trans (entry_shared m ρ c).1)), wsT, bT, ((shared2 m ρ c main_v3 (by decide)).trans ((shared1 m ρ c main_v3 (by decide)).trans (entry_shared m ρ c).2.2))⟩

/-- The codes' and the scales' arrays after call 2. -/
theorem exit2 (c : Dev nD) :
    W6 m ρ c (Proc.devRef .tc main_v12_0) = (fun i : S3x96x81920.Idx => if (i 0).val / 1 = 1 ∧ (i 2).val / 1024 / 40 = 0
      then codesOf (m ((c : Thread nD τ).loc main_arg2)) (xT m c) (wT m c) (wsT m c) (bT m c) (skT m c) i else W5 m ρ c (Proc.devRef .tc main_v12_0) i)
    ∧ W6 m ρ c (Proc.devRef .tc main_v12_1) = (fun i : S1920x128.Idx => if (i 0).val / 8 / 40 = 2
      then scalesOf (m ((c : Thread nD τ).loc main_arg2)) (xT m c) (wT m c) (wsT m c) (bT m c) (skT m c) i else W5 m ρ c (Proc.devRef .tc main_v12_1) i) := by
  obtain ⟨ha, hx, hw, hws, hb, hsk⟩ := entry2 m ρ c
  have h6 := final2_6 (V5 m ρ) c
  have h7 := final2_7 (V5 m ρ) c
  rw [ha, hx, hw, hws, hb, hsk] at h6 h7
  exact ⟨(W6_arr m ρ c 6).trans h6, (W6_arr m ρ c 7).trans h7⟩

/-- Call 2 writes over copies of what call 1 left. -/
theorem over2 (c : Dev nD) : W5 m ρ c (Proc.devRef .tc main_v12_0) = W4 m ρ c (Proc.devRef .tc main_v9_0)
    ∧ W5 m ρ c (Proc.devRef .tc main_v12_1) = W4 m ρ c (Proc.devRef .tc main_v9_1) := by
  show StableHlo.after hostOps2 (W4 m ρ c) (Proc.devRef .tc main_v12_0) = _ ∧ StableHlo.after hostOps2 (W4 m ρ c) (Proc.devRef .tc main_v12_1) = _
  generalize W4 m ρ c = U
  constructor <;> after_results <;> rfl

/-- Call 3 finds the shared arrays as call 2 did. -/
theorem shared3 (c : Dev nD) (r : Ref sig .tc) (h : r = main_v1 ∨ r = main_v2 ∨ r = main_v3) :
    W7 m ρ c (Proc.devRef .tc r) = W5 m ρ c (Proc.devRef .tc r) := by
  rcases h with rfl | rfl | rfl <;> exact (W7_of m ρ c _ (by decide)).trans (W6_of m ρ c _ (by decide))

/-- The arrays call 3 reads. -/
theorem entry3 (c : Dev nD) : V7 m ρ c main_arg3 = m ((c : Thread nD τ).loc main_arg3) ∧ V7 m ρ c main_v2 = xT m c ∧ V7 m ρ c main_v1 = wT m c
    ∧ V7 m ρ c main_v13 = wsT m c ∧ V7 m ρ c main_v14 = bT m c ∧ V7 m ρ c main_v3 = skT m c := by
  have wsT : V7 m ρ c main_v13 = wsT m c := by
    show StableHlo.after hostOps3 (W6 m ρ c) (Proc.devRef .tc main_v13) = _
    have h : W6 m ρ c (Proc.devRef .tc main_arg8) = m ((c : Thread nD τ).loc main_arg8) := W6_args m ρ c main_arg8 (by decide)
    generalize W6 m ρ c = U at h
    after_results
    rw [h]
    rfl
  have bT : V7 m ρ c main_v14 = bT m c := by
    show StableHlo.after hostOps3 (W6 m ρ c) (Proc.devRef .tc main_v14) = _
    have h : W6 m ρ c (Proc.devRef .tc main_arg9) = m ((c : Thread nD τ).loc main_arg9) := W6_args m ρ c main_arg9 (by decide)
    generalize W6 m ρ c = U at h
    after_results
    rw [h]
    rfl
  exact ⟨W7_args m ρ c main_arg3 (by decide), ((shared3 m ρ c main_v2 (by decide)).trans ((shared2 m ρ c main_v2 (by decide)).trans ((shared1 m ρ c main_v2 (by decide)).trans (entry_shared m ρ c).2.1))), ((shared3 m ρ c main_v1 (by decide)).trans ((shared2 m ρ c main_v1 (by decide)).trans ((shared1 m ρ c main_v1 (by decide)).trans (entry_shared m ρ c).1))), wsT, bT, ((shared3 m ρ c main_v3 (by decide)).trans ((shared2 m ρ c main_v3 (by decide)).trans ((shared1 m ρ c main_v3 (by decide)).trans (entry_shared m ρ c).2.2)))⟩

/-- The codes' and the scales' arrays after call 3. -/
theorem exit3 (c : Dev nD) :
    W8 m ρ c (Proc.devRef .tc main_v15_0) = (fun i : S3x96x81920.Idx => if (i 0).val / 1 = 1 ∧ (i 2).val / 1024 / 40 = 1
      then codesOf (m ((c : Thread nD τ).loc main_arg3)) (xT m c) (wT m c) (wsT m c) (bT m c) (skT m c) i else W7 m ρ c (Proc.devRef .tc main_v15_0) i)
    ∧ W8 m ρ c (Proc.devRef .tc main_v15_1) = (fun i : S1920x128.Idx => if (i 0).val / 8 / 40 = 3
      then scalesOf (m ((c : Thread nD τ).loc main_arg3)) (xT m c) (wT m c) (wsT m c) (bT m c) (skT m c) i else W7 m ρ c (Proc.devRef .tc main_v15_1) i) := by
  obtain ⟨ha, hx, hw, hws, hb, hsk⟩ := entry3 m ρ c
  have h6 := final3_6 (V7 m ρ) c
  have h7 := final3_7 (V7 m ρ) c
  rw [ha, hx, hw, hws, hb, hsk] at h6 h7
  exact ⟨(W8_arr m ρ c 6).trans h6, (W8_arr m ρ c 7).trans h7⟩

/-- Call 3 writes over copies of what call 2 left. -/
theorem over3 (c : Dev nD) : W7 m ρ c (Proc.devRef .tc main_v15_0) = W6 m ρ c (Proc.devRef .tc main_v12_0)
    ∧ W7 m ρ c (Proc.devRef .tc main_v15_1) = W6 m ρ c (Proc.devRef .tc main_v12_1) := by
  show StableHlo.after hostOps3 (W6 m ρ c) (Proc.devRef .tc main_v15_0) = _ ∧ StableHlo.after hostOps3 (W6 m ρ c) (Proc.devRef .tc main_v15_1) = _
  generalize W6 m ρ c = U
  constructor <;> after_results <;> rfl

/-- Call 4 finds the shared arrays as call 3 did. -/
theorem shared4 (c : Dev nD) (r : Ref sig .tc) (h : r = main_v1 ∨ r = main_v2 ∨ r = main_v3) :
    W9 m ρ c (Proc.devRef .tc r) = W7 m ρ c (Proc.devRef .tc r) := by
  rcases h with rfl | rfl | rfl <;> exact (W9_of m ρ c _ (by decide)).trans (W8_of m ρ c _ (by decide))

/-- The arrays call 4 reads. -/
theorem entry4 (c : Dev nD) : V9 m ρ c main_arg4 = m ((c : Thread nD τ).loc main_arg4) ∧ V9 m ρ c main_v2 = xT m c ∧ V9 m ρ c main_v1 = wT m c
    ∧ V9 m ρ c main_v16 = wsT m c ∧ V9 m ρ c main_v17 = bT m c ∧ V9 m ρ c main_v3 = skT m c := by
  have wsT : V9 m ρ c main_v16 = wsT m c := by
    show StableHlo.after hostOps4 (W8 m ρ c) (Proc.devRef .tc main_v16) = _
    have h : W8 m ρ c (Proc.devRef .tc main_arg8) = m ((c : Thread nD τ).loc main_arg8) := W8_args m ρ c main_arg8 (by decide)
    generalize W8 m ρ c = U at h
    after_results
    rw [h]
    rfl
  have bT : V9 m ρ c main_v17 = bT m c := by
    show StableHlo.after hostOps4 (W8 m ρ c) (Proc.devRef .tc main_v17) = _
    have h : W8 m ρ c (Proc.devRef .tc main_arg9) = m ((c : Thread nD τ).loc main_arg9) := W8_args m ρ c main_arg9 (by decide)
    generalize W8 m ρ c = U at h
    after_results
    rw [h]
    rfl
  exact ⟨W9_args m ρ c main_arg4 (by decide), ((shared4 m ρ c main_v2 (by decide)).trans ((shared3 m ρ c main_v2 (by decide)).trans ((shared2 m ρ c main_v2 (by decide)).trans ((shared1 m ρ c main_v2 (by decide)).trans (entry_shared m ρ c).2.1)))), ((shared4 m ρ c main_v1 (by decide)).trans ((shared3 m ρ c main_v1 (by decide)).trans ((shared2 m ρ c main_v1 (by decide)).trans ((shared1 m ρ c main_v1 (by decide)).trans (entry_shared m ρ c).1)))), wsT, bT, ((shared4 m ρ c main_v3 (by decide)).trans ((shared3 m ρ c main_v3 (by decide)).trans ((shared2 m ρ c main_v3 (by decide)).trans ((shared1 m ρ c main_v3 (by decide)).trans (entry_shared m ρ c).2.2))))⟩

/-- The codes' and the scales' arrays after call 4. -/
theorem exit4 (c : Dev nD) :
    W10 m ρ c (Proc.devRef .tc main_v18_0) = (fun i : S3x96x81920.Idx => if (i 0).val / 1 = 2 ∧ (i 2).val / 1024 / 40 = 0
      then codesOf (m ((c : Thread nD τ).loc main_arg4)) (xT m c) (wT m c) (wsT m c) (bT m c) (skT m c) i else W9 m ρ c (Proc.devRef .tc main_v18_0) i)
    ∧ W10 m ρ c (Proc.devRef .tc main_v18_1) = (fun i : S1920x128.Idx => if (i 0).val / 8 / 40 = 4
      then scalesOf (m ((c : Thread nD τ).loc main_arg4)) (xT m c) (wT m c) (wsT m c) (bT m c) (skT m c) i else W9 m ρ c (Proc.devRef .tc main_v18_1) i) := by
  obtain ⟨ha, hx, hw, hws, hb, hsk⟩ := entry4 m ρ c
  have h6 := final4_6 (V9 m ρ) c
  have h7 := final4_7 (V9 m ρ) c
  rw [ha, hx, hw, hws, hb, hsk] at h6 h7
  exact ⟨(W10_arr m ρ c 6).trans h6, (W10_arr m ρ c 7).trans h7⟩

/-- Call 4 writes over copies of what call 3 left. -/
theorem over4 (c : Dev nD) : W9 m ρ c (Proc.devRef .tc main_v18_0) = W8 m ρ c (Proc.devRef .tc main_v15_0)
    ∧ W9 m ρ c (Proc.devRef .tc main_v18_1) = W8 m ρ c (Proc.devRef .tc main_v15_1) := by
  show StableHlo.after hostOps4 (W8 m ρ c) (Proc.devRef .tc main_v18_0) = _ ∧ StableHlo.after hostOps4 (W8 m ρ c) (Proc.devRef .tc main_v18_1) = _
  generalize W8 m ρ c = U
  constructor <;> after_results <;> rfl

/-- Call 5 finds the shared arrays as call 4 did. -/
theorem shared5 (c : Dev nD) (r : Ref sig .tc) (h : r = main_v1 ∨ r = main_v2 ∨ r = main_v3) :
    W11 m ρ c (Proc.devRef .tc r) = W9 m ρ c (Proc.devRef .tc r) := by
  rcases h with rfl | rfl | rfl <;> exact (W11_of m ρ c _ (by decide)).trans (W10_of m ρ c _ (by decide))

/-- The arrays call 5 reads. -/
theorem entry5 (c : Dev nD) : V11 m ρ c main_arg5 = m ((c : Thread nD τ).loc main_arg5) ∧ V11 m ρ c main_v2 = xT m c ∧ V11 m ρ c main_v1 = wT m c
    ∧ V11 m ρ c main_v19 = wsT m c ∧ V11 m ρ c main_v20 = bT m c ∧ V11 m ρ c main_v3 = skT m c := by
  have wsT : V11 m ρ c main_v19 = wsT m c := by
    show StableHlo.after hostOps5 (W10 m ρ c) (Proc.devRef .tc main_v19) = _
    have h : W10 m ρ c (Proc.devRef .tc main_arg8) = m ((c : Thread nD τ).loc main_arg8) := W10_args m ρ c main_arg8 (by decide)
    generalize W10 m ρ c = U at h
    after_results
    rw [h]
    rfl
  have bT : V11 m ρ c main_v20 = bT m c := by
    show StableHlo.after hostOps5 (W10 m ρ c) (Proc.devRef .tc main_v20) = _
    have h : W10 m ρ c (Proc.devRef .tc main_arg9) = m ((c : Thread nD τ).loc main_arg9) := W10_args m ρ c main_arg9 (by decide)
    generalize W10 m ρ c = U at h
    after_results
    rw [h]
    rfl
  exact ⟨W11_args m ρ c main_arg5 (by decide), ((shared5 m ρ c main_v2 (by decide)).trans ((shared4 m ρ c main_v2 (by decide)).trans ((shared3 m ρ c main_v2 (by decide)).trans ((shared2 m ρ c main_v2 (by decide)).trans ((shared1 m ρ c main_v2 (by decide)).trans (entry_shared m ρ c).2.1))))), ((shared5 m ρ c main_v1 (by decide)).trans ((shared4 m ρ c main_v1 (by decide)).trans ((shared3 m ρ c main_v1 (by decide)).trans ((shared2 m ρ c main_v1 (by decide)).trans ((shared1 m ρ c main_v1 (by decide)).trans (entry_shared m ρ c).1))))), wsT, bT, ((shared5 m ρ c main_v3 (by decide)).trans ((shared4 m ρ c main_v3 (by decide)).trans ((shared3 m ρ c main_v3 (by decide)).trans ((shared2 m ρ c main_v3 (by decide)).trans ((shared1 m ρ c main_v3 (by decide)).trans (entry_shared m ρ c).2.2)))))⟩

/-- The codes' and the scales' arrays after call 5. -/
theorem exit5 (c : Dev nD) :
    W12 m ρ c (Proc.devRef .tc main_v21_0) = (fun i : S3x96x81920.Idx => if (i 0).val / 1 = 2 ∧ (i 2).val / 1024 / 40 = 1
      then codesOf (m ((c : Thread nD τ).loc main_arg5)) (xT m c) (wT m c) (wsT m c) (bT m c) (skT m c) i else W11 m ρ c (Proc.devRef .tc main_v21_0) i)
    ∧ W12 m ρ c (Proc.devRef .tc main_v21_1) = (fun i : S1920x128.Idx => if (i 0).val / 8 / 40 = 5
      then scalesOf (m ((c : Thread nD τ).loc main_arg5)) (xT m c) (wT m c) (wsT m c) (bT m c) (skT m c) i else W11 m ρ c (Proc.devRef .tc main_v21_1) i) := by
  obtain ⟨ha, hx, hw, hws, hb, hsk⟩ := entry5 m ρ c
  have h6 := final5_6 (V11 m ρ) c
  have h7 := final5_7 (V11 m ρ) c
  rw [ha, hx, hw, hws, hb, hsk] at h6 h7
  exact ⟨(W12_arr m ρ c 6).trans h6, (W12_arr m ρ c 7).trans h7⟩

/-- Call 5 writes over copies of what call 4 left. -/
theorem over5 (c : Dev nD) : W11 m ρ c (Proc.devRef .tc main_v21_0) = W10 m ρ c (Proc.devRef .tc main_v18_0)
    ∧ W11 m ρ c (Proc.devRef .tc main_v21_1) = W10 m ρ c (Proc.devRef .tc main_v18_1) := by
  show StableHlo.after hostOps5 (W10 m ρ c) (Proc.devRef .tc main_v21_0) = _ ∧ StableHlo.after hostOps5 (W10 m ρ c) (Proc.devRef .tc main_v21_1) = _
  generalize W10 m ρ c = U
  constructor <;> after_results <;> rfl

/-- The gathered words of the call that writes token `l` of scene `n`. -/
def wordsOf (c : Dev nD) (n : Fin 3) (h : ℕ) : Vec Ideal S320x424x128 .i32 :=
  if h = 0 then (if n = 0 then m ((c : Thread nD τ).loc main_arg0) else if n = 1 then m ((c : Thread nD τ).loc main_arg2) else m ((c : Thread nD τ).loc main_arg4))
  else (if n = 0 then m ((c : Thread nD τ).loc main_arg1) else if n = 1 then m ((c : Thread nD τ).loc main_arg3) else m ((c : Thread nD τ).loc main_arg5))

/-- The codes' array after the last call. -/
theorem codes_final (c : Dev nD) (n : Fin 3) (k : Fin 96) (l : Fin 81920) : W12 m ρ c (Proc.devRef .tc main_v21_0) (ix3 n k l)
    = codesOf (wordsOf m c n (l.val / 40960)) (xT m c) (wT m c) (wsT m c) (bT m c) (skT m c) (ix3 n k l) := by
  rw [(exit5 m ρ c).1, (over5 m ρ c).1, (exit4 m ρ c).1, (over4 m ρ c).1, (exit3 m ρ c).1, (over3 m ρ c).1, (exit2 m ρ c).1, (over2 m ρ c).1,
    (exit1 m ρ c).1, (over1 m ρ c).1, (exit0 m ρ c).1]
  have hl : l.val / 1024 / 40 = l.val / 40960 := Nat.div_div_eq_div_mul ..
  have h2 : l.val / 40960 = 0 ∨ l.val / 40960 = 1 := by omega
  simp only [ix3_0, ix3_2, hl, Nat.div_one]
  unfold wordsOf
  rcases h2 with h | h <;> rw [h] <;> fin_cases n <;> rfl

/-- The scales' array after the last call. -/
theorem scales_final (c : Dev nD) (t : Fin 1920) (j : Fin 128) : W12 m ρ c (Proc.devRef .tc main_v21_1) (ix2 t j)
    = scalesOf (wordsOf m c ⟨t.val / 640, by omega⟩ (t.val % 640 / 320)) (xT m c) (wT m c) (wsT m c) (bT m c) (skT m c) (ix2 t j) := by
  rw [(exit5 m ρ c).2, (over5 m ρ c).2, (exit4 m ρ c).2, (over4 m ρ c).2, (exit3 m ρ c).2, (over3 m ρ c).2, (exit2 m ρ c).2, (over2 m ρ c).2,
    (exit1 m ρ c).2, (over1 m ρ c).2, (exit0 m ρ c).2]
  have hl : t.val / 8 / 40 = t.val / 320 := Nat.div_div_eq_div_mul ..
  have h6 : t.val / 320 = 0 ∨ t.val / 320 = 1 ∨ t.val / 320 = 2 ∨ t.val / 320 = 3 ∨ t.val / 320 = 4 ∨ t.val / 320 = 5 := by omega
  have e1 : t.val / 640 = t.val / 320 / 2 := by omega
  have e2 : t.val % 640 / 320 = t.val / 320 % 2 := by omega
  simp only [ix2_0, hl, e1, e2]
  unfold wordsOf
  rcases h6 with h | h | h | h | h | h <;> simp only [h] <;> rfl

/-- The first result at an element. -/
theorem result0_apply (c : Dev nD) (n : Fin 3) (l : Fin 81920) (k : Fin 96) : W13 m ρ c (Proc.devRef .tc main_v22) (ix3 n l k)
    = codesOf (wordsOf m c n (l.val / 40960)) (xT m c) (wT m c) (wsT m c) (bT m c) (skT m c) (ix3 n k l) := by
  rw [← codes_final m ρ c n k l]
  show StableHlo.after hostOps6 (W12 m ρ c) (Proc.devRef .tc main_v22) (ix3 n l k) = _
  generalize W12 m ρ c = U
  have h : StableHlo.after hostOps6 U (Proc.devRef .tc main_v22) = transpose S3x81920x96 [0, 2, 1] (U (Proc.devRef .tc main_v21_0)) transposes_S3x96x81920_S3x81920x96_0_2_1 := by
    after_results
  rw [h]
  pointwise

/-- The second result at an element. -/
theorem result1_apply (c : Dev nD) (n : Fin 3) (l : Fin 81920) : W13 m ρ c (Proc.devRef .tc main_v23) (ix2 n l)
    = scaleAt (wordsOf m c n (l.val / 40960)) (xT m c) (wT m c) (wsT m c) (bT m c) (skT m c) n l := by
  have hl := l.isLt
  have e := scales_final m ρ c ⟨640 * n.val + l.val / 128, by omega⟩ ⟨l.val % 128, Nat.mod_lt _ (by decide)⟩
  have h : W13 m ρ c (Proc.devRef .tc main_v23) (ix2 n l) = W12 m ρ c (Proc.devRef .tc main_v21_1) (ix2 (⟨640 * n.val + l.val / 128, by omega⟩ : Fin 1920) (⟨l.val % 128, Nat.mod_lt _ (by decide)⟩ : Fin 128)) := by
    show StableHlo.after hostOps6 (W12 m ρ c) (Proc.devRef .tc main_v23) (ix2 n l) = _
    generalize W12 m ρ c = U
    have h : StableHlo.after hostOps6 U (Proc.devRef .tc main_v23) = shapeCast S3x81920 (U (Proc.devRef .tc main_v21_1)) shapeCasts_S1920x128_S3x81920 := by
      after_results
      rfl
    rw [h]
    generalize U (Proc.devRef .tc main_v21_1) = Y
    change Vec Ideal S1920x128 .f32 at Y
    refine shapeCast_apply Y _ _ _ ?_
    simp only [Shape.rowMajor_val_two, ix2_0, ix2_1]
    show (640 * n.val + l.val / 128) * 128 + l.val % 128 = n.val * 81920 + l.val
    omega
  rw [h, e]
  unfold scalesOf
  have e1 : (640 * n.val + l.val / 128) / 640 = n.val := by omega
  have e2 : (640 * n.val + l.val / 128) % 640 / 320 = l.val / 40960 := by omega
  have e3 : (640 * n.val + l.val / 128) % 640 * 128 + l.val % 128 = l.val := by omega
  simp only [ix2_0, ix2_1, e1, e2, e3]

end Cert.KernelIdeal.Gen
-- ==== Proof.Agree.lean ====
/-
  The two programs' results are one and the same function of the arguments.
-/
module

public import proofs.«01_k».proof.Proof.RefWhole
public import proofs.«01_k».proof.Proof.Chain

@[expose] public section

set_option maxRecDepth 16384
set_option maxHeartbeats 1000000

noncomputable section

namespace Cert.ReferenceIdeal.Gen

open Idealize.ShloMosaic Idealize.ShloMosaic.TcCoe

/-! ## One token, from the arguments -/

/-- Tile `T` of the six arrays together is tile `T % 320` of array `T / 320`. -/
theorem allWords_apply (a0 a1 a2 a3 a4 a5 : Vec Ideal S320x424x128 .i32) (T : Fin 1920) (r : Fin 424) (j : Fin 128) :
    allWords a0 a1 a2 a3 a4 a5 (ix3 T r j) = (if T.val / 320 = 0 then a0 else if T.val / 320 = 1 then a1 else if T.val / 320 = 2 then a2
      else if T.val / 320 = 3 then a3 else if T.val / 320 = 4 then a4 else a5) (ix3 (⟨T.val % 320, by omega⟩ : Fin 320) r j) := by
  unfold allWords
  pointwise
  have key : ∀ (a : Vec Ideal S320x424x128 .i32) (q q' : Fin 320), q.val = q'.val → a (ix3 q r j) = a (ix3 q' r j) := fun a q q' h => by
    rw [Fin.ext h]
  have hT := T.isLt
  show (if h : T.val < 320 then a0 (ix3 (⟨T.val, h⟩ : Fin 320) r j)
    else if h : T.val - 320 < 320 then a1 (ix3 (⟨T.val - 320, h⟩ : Fin 320) r j)
    else if h : T.val - 320 - 320 < 320 then a2 (ix3 (⟨T.val - 320 - 320, h⟩ : Fin 320) r j)
    else if h : T.val - 320 - 320 - 320 < 320 then a3 (ix3 (⟨T.val - 320 - 320 - 320, h⟩ : Fin 320) r j)
    else if h : T.val - 320 - 320 - 320 - 320 < 320 then a4 (ix3 (⟨T.val - 320 - 320 - 320 - 320, h⟩ : Fin 320) r j)
    else a5 (ix3 (⟨T.val - 320 - 320 - 320 - 320 - 320, by omega⟩ : Fin 320) r j)) = _
  split_ifs <;> first | (exfalso; omega) | exact key _ _ _ (by simp only; omega)

/-- A token's own codes in the reference's tiles are its row of `x_codes`. -/
theorem own_apply (x : Vec Ideal S3x81920x64 .fp8e4m3) (n : Fin 3) (l : Fin 81920) (d : Fin 64) (T : Fin 1920) (j : Fin 128)
    (h : 128 * T.val + j.val = 81920 * n.val + l.val) : ownTiles x (ix3 T d j) = x (ix3 n l d) := by
  unfold ownTiles
  pointwise
  have hj := j.isLt
  have hl := l.isLt
  have e1 : (⟨T.val / 640, by omega⟩ : Fin 3) = n := Fin.ext (by show T.val / 640 = n.val; omega)
  have e2 : (⟨T.val % 640 * 128 + j.val, by omega⟩ : Fin 81920) = l := Fin.ext (by show T.val % 640 * 128 + j.val = l.val; omega)
  exact congrArg₂ (fun a b => x (ix3 a b d)) e1 e2

/-- The skip connection by flat token. -/
theorem flat_skip (sk : Vec Ideal S3x81920x96 .bf16) (n : Fin 3) (l : Fin 81920) (c : Fin 96) (R : Fin 245760) (h : R.val = 81920 * n.val + l.val) :
    shapeCast S245760x96 sk shapeCasts_S3x81920x96_S245760x96 (ix2 R c) = sk (ix3 n l c) := by
  pointwise
  have hl := l.isLt
  have e1 : (⟨R.val / 81920, by omega⟩ : Fin 3) = n := Fin.ext (by show R.val / 81920 = n.val; omega)
  have e2 : (⟨R.val % 81920, by omega⟩ : Fin 81920) = l := Fin.ext (by show R.val % 81920 = l.val; omega)
  exact congrArg₂ (fun a b => sk (ix3 a b c)) e1 e2

/-- A vector of channels as a row and as a column. -/
theorem row_col (v : Vec Ideal S96 .f32) (c : Fin 96) :
    shapeCast S1x96 v shapeCasts_S96_S1x96 (ix2 0 c) = shapeCast Cert.KernelIdeal.S96x1 v Cert.KernelIdeal.Gen.shapeCasts_S96_S96x1 (ix2 c 0) := by
  pointwise

/-- The weights by flat input channel. -/
theorem flat_wts (w : Vec Ideal S27x64x96 .fp8e4m3) (q : Fin 1728) (c : Fin 96) :
    shapeCast S1728x96 w shapeCasts_S27x64x96_S1728x96 (ix2 q c)
      = transpose Cert.KernelIdeal.S96x1728 [1, 0] (shapeCast Cert.KernelIdeal.S1728x96 w Cert.KernelIdeal.Gen.shapeCasts_S27x64x96_S1728x96)
          Cert.KernelIdeal.Gen.transposes_S1728x96_S96x1728_1_0 (ix2 c q) := by
  pointwise

/-- The skip connection, channel-major. -/
theorem skip_T (sk : Vec Ideal S3x81920x96 .bf16) (n : Fin 3) (l : Fin 81920) (c : Fin 96) :
    transpose Cert.KernelIdeal.S3x96x81920 [0, 2, 1] sk Cert.KernelIdeal.Gen.transposes_S3x81920x96_S3x96x81920_0_2_1 (ix3 n c l) = sk (ix3 n l c) := by
  pointwise

/-- The centre tap's codes, channel-major. -/
theorem own_T (x : Vec Ideal S3x81920x64 .fp8e4m3) (n : Fin 3) (l : Fin 81920) (d : Fin 64) :
    transpose Cert.KernelIdeal.S3x64x81920 [0, 2, 1] x Cert.KernelIdeal.Gen.transposes_S3x81920x64_S3x64x81920_0_2_1 (ix3 n d l) = x (ix3 n l d) := by
  pointwise

/-- The gathered array of a scene's half. -/
def pickWords (a0 a1 a2 a3 a4 a5 : Vec Ideal S320x424x128 .i32) (n : Fin 3) (h : ℕ) : Vec Ideal S320x424x128 .i32 :=
  if h = 0 then (if n = 0 then a0 else if n = 1 then a2 else a4) else (if n = 0 then a1 else if n = 1 then a3 else a5)

/-- The token's word: the reference's in all six arrays together, the kernel's in its half's. -/
theorem words_agree (a0 a1 a2 a3 a4 a5 : Vec Ideal S320x424x128 .i32) (n : Fin 3) (l : Fin 81920) (r : Fin 424) (T : Fin 1920) (j j' : Fin 128) (q : Fin 320)
    (hT : T.val = 640 * n.val + l.val / 128) (hq : q.val = l.val / 128 % 320) (hj : j = j') :
    allWords a0 a1 a2 a3 a4 a5 (ix3 T r j) = pickWords a0 a1 a2 a3 a4 a5 n (l.val / 40960) (ix3 q r j') := by
  subst hj
  have hl := l.isLt
  rw [allWords_apply]
  have e1 : (⟨T.val % 320, by omega⟩ : Fin 320) = q := Fin.ext (by show T.val % 320 = q.val; omega)
  have e2 : T.val / 320 = 2 * n.val + l.val / 40960 := by omega
  have h2 : l.val / 40960 = 0 ∨ l.val / 40960 = 1 := by omega
  rw [e1, e2]
  unfold pickWords
  rcases h2 with h | h <;> rw [h] <;> fin_cases n <;> rfl

section Token
variable (a0 a1 a2 a3 a4 a5 : Vec Ideal S320x424x128 .i32) (x : Vec Ideal S3x81920x64 .fp8e4m3) (w : Vec Ideal S27x64x96 .fp8e4m3)
  (ws b : Vec Ideal S96 .f32) (sk : Vec Ideal S3x81920x96 .bf16)

/-- The reference's layer of a token, from the arguments. -/
abbrev layerRef (R : Fin 245760) (c : Fin 96) : EReal :=
  layerR (allWords a0 a1 a2 a3 a4 a5) (ownTiles x) (shapeCast S1728x96 w shapeCasts_S27x64x96_S1728x96) (shapeCast S1x96 ws shapeCasts_S96_S1x96)
    (shapeCast S1x96 b shapeCasts_S96_S1x96) (shapeCast S245760x96 sk shapeCasts_S3x81920x96_S245760x96) R c

/-- The kernel's layer of a token, from the arguments. -/
abbrev layerKer (n : Fin 3) (l : Fin 81920) (c : Fin 96) : EReal :=
  Cert.KernelIdeal.Gen.layerOf (pickWords a0 a1 a2 a3 a4 a5 n (l.val / 40960))
    (transpose Cert.KernelIdeal.S3x64x81920 [0, 2, 1] x Cert.KernelIdeal.Gen.transposes_S3x81920x64_S3x64x81920_0_2_1)
    (transpose Cert.KernelIdeal.S96x1728 [1, 0] (shapeCast Cert.KernelIdeal.S1728x96 w Cert.KernelIdeal.Gen.shapeCasts_S27x64x96_S1728x96)
      Cert.KernelIdeal.Gen.transposes_S1728x96_S96x1728_1_0)
    (shapeCast Cert.KernelIdeal.S96x1 ws Cert.KernelIdeal.Gen.shapeCasts_S96_S96x1) (shapeCast Cert.KernelIdeal.S96x1 b Cert.KernelIdeal.Gen.shapeCasts_S96_S96x1)
    (transpose Cert.KernelIdeal.S3x96x81920 [0, 2, 1] sk Cert.KernelIdeal.Gen.transposes_S3x81920x96_S3x96x81920_0_2_1) n l c

/-- They are equal: the reference's row of token `l` of scene `n` is `81920 n + l`. -/
theorem layer_agree (n : Fin 3) (l : Fin 81920) (c : Fin 96) (R : Fin 245760) (hR : R.val = 81920 * n.val + l.val) :
    layerRef a0 a1 a2 a3 a4 a5 x w ws b sk R c = layerKer a0 a1 a2 a3 a4 a5 x w ws b sk n l c := by
  have hl := l.isLt
  unfold layerRef layerKer layerR Cert.KernelIdeal.Gen.layerOf
  rw [row_col ws, row_col b, flat_skip sk n l c R hR, skip_T sk n l c]
  have e1 : (fun r : Fin 424 => allWords a0 a1 a2 a3 a4 a5 (ix3 (⟨R.val / 128, by omega⟩ : Fin 1920) r (⟨R.val % 128, by omega⟩ : Fin 128)))
      = fun r => pickWords a0 a1 a2 a3 a4 a5 n (l.val / 40960) (ix3 (⟨l.val / 128 % 320, Nat.mod_lt _ (by decide)⟩ : Fin 320) r (⟨l.val % 128, Nat.mod_lt _ (by decide)⟩ : Fin 128)) :=
    funext fun r => words_agree a0 a1 a2 a3 a4 a5 n l r _ _ _ _ (by show R.val / 128 = _; omega) rfl (Fin.ext (by show R.val % 128 = l.val % 128; omega))
  have e2 : (fun d : Fin 64 => ownTiles x (ix3 (⟨R.val / 128, by omega⟩ : Fin 1920) d (⟨R.val % 128, by omega⟩ : Fin 128)))
      = fun d => transpose Cert.KernelIdeal.S3x64x81920 [0, 2, 1] x Cert.KernelIdeal.Gen.transposes_S3x81920x64_S3x64x81920_0_2_1 (ix3 n d l) :=
    funext fun d => (own_apply x n l d _ _ (by show 128 * (R.val / 128) + R.val % 128 = _; omega)).trans (own_T x n l d).symm
  have e3 := funext fun q => flat_wts w q c
  rw [e1, e2, e3]

end Token

/-! ## The results -/

/-- The reference's flat codes in their scenes. -/
theorem unflat_codes (O : Vec Ideal S245760x96 .fp8e4m3) (n : Fin 3) (l : Fin 81920) (k : Fin 96) (R : Fin 245760) (h : R.val = 81920 * n.val + l.val) :
    shapeCast S3x81920x96 O shapeCasts_S245760x96_S3x81920x96 (ix3 n l k) = O (ix2 R k) := by
  refine shapeCast_apply O _ _ _ ?_
  simp only [Shape.rowMajor_val_two, Shape.rowMajor_val_three, ix2_0, ix2_1, ix3_0, ix3_1, ix3_2]
  show R.val * 96 + k.val = (n.val * 81920 + l.val) * 96 + k.val
  omega

/-- The reference's flat scales in their scenes. -/
theorem unflat_scales (O : Vec Ideal S245760x1 .f32) (n : Fin 3) (l : Fin 81920) (R : Fin 245760) (h : R.val = 81920 * n.val + l.val) :
    shapeCast S3x81920 O shapeCasts_S245760x1_S3x81920 (ix2 n l) = O (ix2 R 0) := by
  refine shapeCast_apply O _ _ _ ?_
  simp only [Shape.rowMajor_val_two, ix2_0, ix2_1]
  show R.val * 1 + 0 = n.val * 81920 + l.val
  omega

section Results
variable (m : (ℓ : Loc nD τ sig) → Buf (Elt Ideal) ℓ) (c : Dev nD)
  (a0 a1 a2 a3 a4 a5 : Vec Ideal S320x424x128 .i32) (x : Vec Ideal S3x81920x64 .fp8e4m3) (w : Vec Ideal S27x64x96 .fp8e4m3)
  (ws b : Vec Ideal S96 .f32) (sk : Vec Ideal S3x81920x96 .bf16)
  (h0 : m ((c : Thread nD τ).loc main_arg0) = a0) (h1 : m ((c : Thread nD τ).loc main_arg1) = a1) (h2 : m ((c : Thread nD τ).loc main_arg2) = a2)
  (h3 : m ((c : Thread nD τ).loc main_arg3) = a3) (h4 : m ((c : Thread nD τ).loc main_arg4) = a4) (h5 : m ((c : Thread nD τ).loc main_arg5) = a5)
  (h6 : m ((c : Thread nD τ).loc main_arg6) = x) (h7 : m ((c : Thread nD τ).loc main_arg7) = w) (h8 : m ((c : Thread nD τ).loc main_arg8) = ws)
  (h9 : m ((c : Thread nD τ).loc main_arg9) = b) (h10 : m ((c : Thread nD τ).loc main_arg10) = sk)
include h0 h1 h2 h3 h4 h5 h6 h7 h8 h9 h10

/-- The reference's codes at an element. -/
theorem codes_ref (n : Fin 3) (l : Fin 81920) (k : Fin 96) :
    shapeCast S3x81920x96 (Value.reg_main_v7_0 m c) shapeCasts_S245760x96_S3x81920x96 (ix3 n l k)
      = Conv.quant (layerKer a0 a1 a2 a3 a4 a5 x w ws b sk n l k) (Conv.scaleOf (Conv.frac (layerKer a0 a1 a2 a3 a4 a5 x w ws b sk n l))) := by
  obtain ⟨v0, v2, v3, v4, v5, v6⟩ := entryR m c
  have hl := l.isLt
  rw [h0, h1, h2, h3, h4, h5] at v0
  rw [h6] at v2
  rw [h7] at v3
  rw [h8] at v4
  rw [h9] at v5
  rw [h10] at v6
  have e : Value.reg_main_v7_0 m c = out0_6 (V m c main_v0) (V m c main_v2) (V m c main_v3) (V m c main_v4) (V m c main_v5) (V m c main_v6) := finalR_6 m c
  rw [v0, v2, v3, v4, v5, v6] at e
  have hr := out0_6_apply (allWords a0 a1 a2 a3 a4 a5) (ownTiles x) (shapeCast S1728x96 w shapeCasts_S27x64x96_S1728x96) (shapeCast S1x96 ws shapeCasts_S96_S1x96)
    (shapeCast S1x96 b shapeCasts_S96_S1x96) (shapeCast S245760x96 sk shapeCasts_S3x81920x96_S245760x96) (⟨81920 * n.val + l.val, by omega⟩ : Fin 245760) k
  have ha : ∀ k, layerRef a0 a1 a2 a3 a4 a5 x w ws b sk (⟨81920 * n.val + l.val, by omega⟩ : Fin 245760) k = layerKer a0 a1 a2 a3 a4 a5 x w ws b sk n l k :=
    fun k => layer_agree a0 a1 a2 a3 a4 a5 x w ws b sk n l k _ rfl
  have ha' := funext ha
  change layerR _ _ _ _ _ _ _ = _ at ha'
  rw [← e, ha'] at hr
  exact (unflat_codes (Value.reg_main_v7_0 m c) n l k _ rfl).trans hr

/-- The reference's scales at an element. -/
theorem scales_ref (n : Fin 3) (l : Fin 81920) :
    shapeCast S3x81920 (Value.reg_main_v7_1 m c) shapeCasts_S245760x1_S3x81920 (ix2 n l)
      = Conv.scaleOf (Conv.frac (layerKer a0 a1 a2 a3 a4 a5 x w ws b sk n l)) := by
  obtain ⟨v0, v2, v3, v4, v5, v6⟩ := entryR m c
  have hl := l.isLt
  rw [h0, h1, h2, h3, h4, h5] at v0
  rw [h6] at v2
  rw [h7] at v3
  rw [h8] at v4
  rw [h9] at v5
  rw [h10] at v6
  have e : Value.reg_main_v7_1 m c = out0_7 (V m c main_v0) (V m c main_v2) (V m c main_v3) (V m c main_v4) (V m c main_v5) (V m c main_v6) := finalR_7 m c
  rw [v0, v2, v3, v4, v5, v6] at e
  have hr := out0_7_apply (allWords a0 a1 a2 a3 a4 a5) (ownTiles x) (shapeCast S1728x96 w shapeCasts_S27x64x96_S1728x96) (shapeCast S1x96 ws shapeCasts_S96_S1x96)
    (shapeCast S1x96 b shapeCasts_S96_S1x96) (shapeCast S245760x96 sk shapeCasts_S3x81920x96_S245760x96) (⟨81920 * n.val + l.val, by omega⟩ : Fin 245760)
  have ha : ∀ k, layerRef a0 a1 a2 a3 a4 a5 x w ws b sk (⟨81920 * n.val + l.val, by omega⟩ : Fin 245760) k = layerKer a0 a1 a2 a3 a4 a5 x w ws b sk n l k :=
    fun k => layer_agree a0 a1 a2 a3 a4 a5 x w ws b sk n l k _ rfl
  have ha' := funext ha
  change layerR _ _ _ _ _ _ _ = _ at ha'
  rw [← e, ha'] at hr
  exact (unflat_scales (Value.reg_main_v7_1 m c) n l _ rfl).trans hr

end Results

end Cert.ReferenceIdeal.Gen
-- ==== Proof.KernelRun.lean ====
/-
  The kernel's run to its two results: the generated frame run, read at the result arrays too.
-/
module

public import proofs.«01_k».proof.Proof.Gen.KernelIdeal.Frame

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `θ_run_regions_kit_sems`'s implicit arguments are found by unifying its conclusion with this one, which takes unfolding
-- plain definitions in a metavariable's type
set_option backward.isDefEq.respectTransparency.types false in
/-- The kernel's run, at any `F`: from any memory with zero counters every weakly fair execution of @main terminates with the
    two results at the contents the last stretch of the fold gives them and the arguments as launched. -/
theorem run_results : θ_run defs (onTc (τ := τ) (main (F := F))) ⟨m, fun _ => 0, ρ⟩ (fun r => ∀ c : Dev nD,
      r.2.mem ((c.tc : Thread nD τ).loc main_v22) = W13 m ρ c (Proc.devRef .tc main_v22)
      ∧ r.2.mem ((c.tc : Thread nD τ).loc main_v23) = W13 m ρ c (Proc.devRef .tc main_v23)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h _ => fun c =>
      ⟨h c _ (mem_uc main_v22 (by decide)), h c _ (mem_uc main_v23 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c)⟩)

end Cert.KernelIdeal.Gen
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Run
public import proofs.«01_k».proof.Proof.Agree
public import proofs.«01_k».proof.Proof.KernelRun
public import Idealize.ShloMosaic.Adequacy
public import Idealize.ShloMosaic.Init

@[expose] public section

noncomputable section

namespace Cert.Proof

open Idealize.ShloMosaic Idealize.SL.Sem Cert.Kernel

/-- Run on one set of arguments, the kernel and the reference leave the same codes and the same scales. -/
theorem algebraic : @algebraic_KernelIdeal_ReferenceIdeal Cert.KernelIdeal.Gen.facts Cert.ReferenceIdeal.Gen.facts := by
  intro m g m' g' _ hargs
  refine ⟨fun c => Cert.KernelIdeal.Gen.W13 m g c (Proc.devRef .tc Cert.KernelIdeal.main_v22),
    fun c => Cert.KernelIdeal.Gen.W13 m g c (Proc.devRef .tc Cert.KernelIdeal.main_v23), Cert.KernelIdeal.Gen.run_results m g, ?_⟩
  refine (θ_run _ _ _).mono (fun r h c => ?_) (Cert.ReferenceIdeal.Value.run m' g')
  obtain ⟨h0, h1, hkept⟩ := h c
  obtain ⟨e0, e1, e2, e3, e4, e5, e6, e7, e8, e9, e10⟩ := hargs c
  refine ⟨h0.trans ?_, h1.trans ?_, hkept⟩
  · funext i
    obtain ⟨n, l, k, rfl⟩ : ∃ (n : Fin 3) (l : Fin 81920) (k : Fin 96), i = ix3 n l k := ⟨i 0, i 1, i 2, eq_ix3 i⟩
    exact (Cert.ReferenceIdeal.Gen.codes_ref m' c _ _ _ _ _ _ _ _ _ _ _ e0 e1 e2 e3 e4 e5 e6 e7 e8 e9 e10 n l k).trans
      (Cert.KernelIdeal.Gen.result0_apply m g c n l k).symm
  · funext i
    obtain ⟨n, l, rfl⟩ : ∃ (n : Fin 3) (l : Fin 81920), i = ix2 n l := ⟨i 0, i 1, eq_ix2 i⟩
    exact (Cert.ReferenceIdeal.Gen.scales_ref m' c _ _ _ _ _ _ _ _ _ _ _ e0 e1 e2 e3 e4 e5 e6 e7 e8 e9 e10 n l).trans
      (Cert.KernelIdeal.Gen.result1_apply m g c n l).symm

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.ReferenceIdeal.Gen.frame m ρ, trivial, algebraic⟩

end Cert.Proof

end
